-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_q" .f32 0x3A2AAAAB#32 ((1 / 1536 : ℝ) : EReal)

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v28_0) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S1x8192x16384 : Shape := ⟨3, ![1, 8192, 16384]⟩
abbrev S2112x16384 : Shape := ⟨2, ![2112, 16384]⟩
abbrev S17x128 : Shape := ⟨2, ![17, 128]⟩
abbrev S1536 : Shape := ⟨1, ![1536]⟩
abbrev S512 : Shape := ⟨1, ![512]⟩
abbrev S1 : Shape := ⟨1, ![1]⟩
abbrev S_ : Shape := ⟨0, ![]⟩

class Facts : Prop where
  bitsLt_bf16_f32 : FTy.bits .bf16 < FTy.bits .f32
  bcast_S_S1x8192x16384 : S_.BroadcastsInDim S1x8192x16384 (![] : Fin 0 → Fin S1x8192x16384.rank)
  reducesTo_S1x8192x16384_S_d0_1_2 : S1x8192x16384.ReducesTo [0, 1, 2] S_
  h_S_ : 0 < S_.numel

variable [Facts]

def fn {F : FTy → Type} [FloatOps F] (main_arg0 : FVec F S1x8192x16384 .bf16) (main_arg1 : FVec F S2112x16384 .fp8e4m3) (main_arg2 : FVec F S17x128 .f32) (main_arg3 : FVec F S1536 .bf16) (main_arg4 : FVec F S512 .bf16) (main_arg5 : IVec S1 32) : IVec S_ 1 :=
  let main_v0 : FVec F S1x8192x16384 .f32 := (extf .f32 · bitsLt_bf16_f32) main_arg0
  let main_v1 : FVec F S1x8192x16384 .f32 := Host.absf main_v0
  let main_cst : FVec F S_ .f32 := constant S_ .f32 0x7F7F0000#32
  let main_v2 : FVec F S1x8192x16384 .f32 := broadcastInDim S1x8192x16384 ![] bcast_S_S1x8192x16384 main_cst
  let main_v3 : IVec S1x8192x16384 1 := cmpf .ole main_v1 main_v2
  let main_c : IVec S_ 1 := constantI S_ 1 1#1
  let main_v4 : IVec S_ 1 := (fun x v => Host.reduce IntOp.andi x v reducesTo_S1x8192x16384_S_d0_1_2 h_S_) main_v3 main_c
  main_v4
-- ==== Kernel.lean ====
abbrev S1x8192x16384 : Shape := ⟨3, ![1, 8192, 16384]⟩
abbrev S2112x16384 : Shape := ⟨2, ![2112, 16384]⟩
abbrev S17x128 : Shape := ⟨2, ![17, 128]⟩
abbrev S1536 : Shape := ⟨1, ![1536]⟩
abbrev S512 : Shape := ⟨1, ![512]⟩
abbrev S1 : Shape := ⟨1, ![1]⟩
abbrev S8192x16384 : Shape := ⟨2, ![8192, 16384]⟩
abbrev S1x1536 : Shape := ⟨2, ![1, 1536]⟩
abbrev S1x512 : Shape := ⟨2, ![1, 512]⟩
abbrev S8192x1536 : Shape := ⟨2, ![8192, 1536]⟩
abbrev S8192x512 : Shape := ⟨2, ![8192, 512]⟩
abbrev S8192x64 : Shape := ⟨2, ![8192, 64]⟩
abbrev S8192x128 : Shape := ⟨2, ![8192, 128]⟩
abbrev S512x2048 : Shape := ⟨2, ![512, 2048]⟩
abbrev S2112x2048 : Shape := ⟨2, ![2112, 2048]⟩
abbrev S512x1536 : Shape := ⟨2, ![512, 1536]⟩
abbrev S512x512 : Shape := ⟨2, ![512, 512]⟩
abbrev S512x64 : Shape := ⟨2, ![512, 64]⟩
abbrev S512x128 : Shape := ⟨2, ![512, 128]⟩
abbrev S2112x512 : Shape := ⟨2, ![2112, 512]⟩
abbrev S512x1 : Shape := ⟨2, ![512, 1]⟩
abbrev S1x256 : Shape := ⟨2, ![1, 256]⟩
abbrev S512x256 : Shape := ⟨2, ![512, 256]⟩
abbrev S1x1 : Shape := ⟨2, ![1, 1]⟩
abbrev S128x128 : Shape := ⟨2, ![128, 128]⟩
abbrev S64x128 : Shape := ⟨2, ![64, 128]⟩
abbrev S1536x512 : Shape := ⟨2, ![1536, 512]⟩
abbrev S64x512 : Shape := ⟨2, ![64, 512]⟩

abbrev nBuf : Space → Nat
  | .hbm => 14
  | .vmem => 20
  | .smem => 2
  | _ => 0

abbrev bufTy : (tb : Table) → Fin (tcTables nBuf tb) → BufTy
  | .hbm, ⟨0, _⟩ => ⟨S1x8192x16384, .bf16⟩
  | .hbm, ⟨1, _⟩ => ⟨S2112x16384, .fp8e4m3⟩
  | .hbm, ⟨2, _⟩ => ⟨S17x128, .f32⟩
  | .hbm, ⟨3, _⟩ => ⟨S1536, .bf16⟩
  | .hbm, ⟨4, _⟩ => ⟨S512, .bf16⟩
  | .hbm, ⟨5, _⟩ => ⟨S1, .i32⟩
  | .hbm, ⟨6, _⟩ => ⟨S8192x16384, .bf16⟩
  | .hbm, ⟨7, _⟩ => ⟨S1x1536, .bf16⟩
  | .hbm, ⟨8, _⟩ => ⟨S1x512, .bf16⟩
  | .hbm, ⟨9, _⟩ => ⟨S8192x1536, .bf16⟩
  | .hbm, ⟨10, _⟩ => ⟨S8192x512, .bf16⟩
  | .hbm, ⟨11, _⟩ => ⟨S8192x64, .bf16⟩
  | .hbm, ⟨12, _⟩ => ⟨S8192x16384, .fp8e4m3⟩
  | .hbm, ⟨13, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S2112x2048, .fp8e4m3⟩
  | .local _ .vmem, ⟨3, _⟩ => ⟨S2112x2048, .fp8e4m3⟩
  | .local _ .vmem, ⟨4, _⟩ => ⟨S1x1536, .bf16⟩
  | .local _ .vmem, ⟨5, _⟩ => ⟨S1x512, .bf16⟩
  | .local _ .vmem, ⟨6, _⟩ => ⟨S512x1536, .bf16⟩
  | .local _ .vmem, ⟨7, _⟩ => ⟨S512x1536, .bf16⟩
  | .local _ .vmem, ⟨8, _⟩ => ⟨S512x512, .bf16⟩
  | .local _ .vmem, ⟨9, _⟩ => ⟨S512x512, .bf16⟩
  | .local _ .vmem, ⟨10, _⟩ => ⟨S512x64, .bf16⟩
  | .local _ .vmem, ⟨11, _⟩ => ⟨S512x64, .bf16⟩
  | .local _ .vmem, ⟨12, _⟩ => ⟨S512x2048, .fp8e4m3⟩
  | .local _ .vmem, ⟨13, _⟩ => ⟨S512x2048, .fp8e4m3⟩
  | .local _ .vmem, ⟨14, _⟩ => ⟨S512x128, .f32⟩
  | .local _ .vmem, ⟨15, _⟩ => ⟨S512x128, .f32⟩
  | .local _ .vmem, ⟨16, _⟩ => ⟨S2112x512, .f32⟩
  | .local _ .vmem, ⟨17, _⟩ => ⟨S512x2048, .bf16⟩
  | .local _ .vmem, ⟨18, _⟩ => ⟨S2112x2048, .bf16⟩
  | .local _ .vmem, ⟨19, _⟩ => ⟨S512x128, .f32⟩
  | .local _ .smem, ⟨0, _⟩ => ⟨S17x128, .f32⟩
  | .local _ .smem, ⟨1, _⟩ => ⟨S1, .i32⟩
  | _, _ => ⟨S1x8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 8], ![false, false]⟩

def k0_off1 (i : grid0.Coords) (c0_i32_273 : BitVec 32) : Fin 2 → Nat :=
  let c0_274 : Index := 0#32
  let arg1 : BitVec 32 := BitVec.ofNat 32 (i 1).val
  let c16_i32_272 : BitVec 32 := 16#32
  let v902 : BitVec 32 := Scalar.muli arg1 c16_i32_272
  let v903 : BitVec 32 := Scalar.addi v902 c0_i32_273
  let v904 : Index := Scalar.indexCast v903
  ![0, v904.toNat]
def k0_off2 (i : grid0.Coords) (c0_i32_385 : BitVec 32) : Fin 2 → Nat :=
  let c1 : Index := 1#32
  let arg1 : BitVec 32 := BitVec.ofNat 32 (i 1).val
  let c16_i32_384 : BitVec 32 := 16#32
  let v1094 : BitVec 32 := Scalar.muli arg1 c16_i32_384
  let v1095 : BitVec 32 := Scalar.addi v1094 c0_i32_385
  let v1096 : Index := Scalar.indexCast v1095
  ![1, v1096.toNat]
def k0_off3 (i : grid0.Coords) (c0_i32_496 : BitVec 32) : Fin 2 → Nat :=
  let c2 : Index := 2#32
  let arg1 : BitVec 32 := BitVec.ofNat 32 (i 1).val
  let c16_i32_495 : BitVec 32 := 16#32
  let v1286 : BitVec 32 := Scalar.muli arg1 c16_i32_495
  let v1287 : BitVec 32 := Scalar.addi v1286 c0_i32_496
  let v1288 : Index := Scalar.indexCast v1287
  ![2, v1288.toNat]
def k0_off4 (i : grid0.Coords) (c0_i32_607 : BitVec 32) : Fin 2 → Nat :=
  let c3 : Index := 3#32
  let arg1 : BitVec 32 := BitVec.ofNat 32 (i 1).val
  let c16_i32_606 : BitVec 32 := 16#32
  let v1478 : BitVec 32 := Scalar.muli arg1 c16_i32_606
  let v1479 : BitVec 32 := Scalar.addi v1478 c0_i32_607
  let v1480 : Index := Scalar.indexCast v1479
  ![3, v1480.toNat]
def k0_off5 (i : grid0.Coords) (c0_i32_718 : BitVec 32) : Fin 2 → Nat :=
  let c4 : Index := 4#32
  let arg1 : BitVec 32 := BitVec.ofNat 32 (i 1).val
  let c16_i32_717 : BitVec 32 := 16#32
  let v1670 : BitVec 32 := Scalar.muli arg1 c16_i32_717
  let v1671 : BitVec 32 := Scalar.addi v1670 c0_i32_718
  let v1672 : Index := Scalar.indexCast v1671
  ![4, v1672.toNat]
def k0_off6 (i : grid0.Coords) (c0_i32_829 : BitVec 32) : Fin 2 → Nat :=
  let c5 : Index := 5#32
  let arg1 : BitVec 32 := BitVec.ofNat 32 (i 1).val
  let c16_i32_828 : BitVec 32 := 16#32
  let v1862 : BitVec 32 := Scalar.muli arg1 c16_i32_828
  let v1863 : BitVec 32 := Scalar.addi v1862 c0_i32_829
  let v1864 : Index := Scalar.indexCast v1863
  ![5, v1864.toNat]
def k0_off7 (i : grid0.Coords) (c0_i32_940 : BitVec 32) : Fin 2 → Nat :=
  let c6 : Index := 6#32
  let arg1 : BitVec 32 := BitVec.ofNat 32 (i 1).val
  let c16_i32_939 : BitVec 32 := 16#32
  let v2054 : BitVec 32 := Scalar.muli arg1 c16_i32_939
  let v2055 : BitVec 32 := Scalar.addi v2054 c0_i32_940
  let v2056 : Index := Scalar.indexCast v2055
  ![6, v2056.toNat]
def k0_off8 (i : grid0.Coords) (c0_i32_1051 : BitVec 32) : Fin 2 → Nat :=
  let c7 : Index := 7#32
  let arg1 : BitVec 32 := BitVec.ofNat 32 (i 1).val
  let c16_i32_1050 : BitVec 32 := 16#32
  let v2246 : BitVec 32 := Scalar.muli arg1 c16_i32_1050
  let v2247 : BitVec 32 := Scalar.addi v2246 c0_i32_1051
  let v2248 : Index := Scalar.indexCast v2247
  ![7, v2248.toNat]
def k0_off9 (i : grid0.Coords) (c0_i32_1162 : BitVec 32) : Fin 2 → Nat :=
  let c8 : Index := 8#32
  let arg1 : BitVec 32 := BitVec.ofNat 32 (i 1).val
  let c16_i32_1161 : BitVec 32 := 16#32
  let v2438 : BitVec 32 := Scalar.muli arg1 c16_i32_1161
  let v2439 : BitVec 32 := Scalar.addi v2438 c0_i32_1162
  let v2440 : Index := Scalar.indexCast v2439
  ![8, v2440.toNat]
def k0_off10 (i : grid0.Coords) (c0_i32_1273 : BitVec 32) : Fin 2 → Nat :=
  let c9 : Index := 9#32
  let arg1 : BitVec 32 := BitVec.ofNat 32 (i 1).val
  let c16_i32_1272 : BitVec 32 := 16#32
  let v2630 : BitVec 32 := Scalar.muli arg1 c16_i32_1272
  let v2631 : BitVec 32 := Scalar.addi v2630 c0_i32_1273
  let v2632 : Index := Scalar.indexCast v2631
  ![9, v2632.toNat]
def k0_off11 (i : grid0.Coords) (c0_i32_1384 : BitVec 32) : Fin 2 → Nat :=
  let c10 : Index := 10#32
  let arg1 : BitVec 32 := BitVec.ofNat 32 (i 1).val
  let c16_i32_1383 : BitVec 32 := 16#32
  let v2822 : BitVec 32 := Scalar.muli arg1 c16_i32_1383
  let v2823 : BitVec 32 := Scalar.addi v2822 c0_i32_1384
  let v2824 : Index := Scalar.indexCast v2823
  ![10, v2824.toNat]
def k0_off12 (i : grid0.Coords) (c0_i32_1495 : BitVec 32) : Fin 2 → Nat :=
  let c11 : Index := 11#32
  let arg1 : BitVec 32 := BitVec.ofNat 32 (i 1).val
  let c16_i32_1494 : BitVec 32 := 16#32
  let v3014 : BitVec 32 := Scalar.muli arg1 c16_i32_1494
  let v3015 : BitVec 32 := Scalar.addi v3014 c0_i32_1495
  let v3016 : Index := Scalar.indexCast v3015
  ![11, v3016.toNat]
def k0_off13 (i : grid0.Coords) (c0_i32_1606 : BitVec 32) : Fin 2 → Nat :=
  let c12 : Index := 12#32
  let arg1 : BitVec 32 := BitVec.ofNat 32 (i 1).val
  let c16_i32_1605 : BitVec 32 := 16#32
  let v3206 : BitVec 32 := Scalar.muli arg1 c16_i32_1605
  let v3207 : BitVec 32 := Scalar.addi v3206 c0_i32_1606
  let v3208 : Index := Scalar.indexCast v3207
  ![12, v3208.toNat]
def k0_off14 (i : grid0.Coords) (c0_i32_1717 : BitVec 32) : Fin 2 → Nat :=
  let c13 : Index := 13#32
  let arg1 : BitVec 32 := BitVec.ofNat 32 (i 1).val
  let c16_i32_1716 : BitVec 32 := 16#32
  let v3398 : BitVec 32 := Scalar.muli arg1 c16_i32_1716
  let v3399 : BitVec 32 := Scalar.addi v3398 c0_i32_1717
  let v3400 : Index := Scalar.indexCast v3399
  ![13, v3400.toNat]
def k0_off15 (i : grid0.Coords) (c0_i32_1828 : BitVec 32) : Fin 2 → Nat :=
  let c14 : Index := 14#32
  let arg1 : BitVec 32 := BitVec.ofNat 32 (i 1).val
  let c16_i32_1827 : BitVec 32 := 16#32
  let v3590 : BitVec 32 := Scalar.muli arg1 c16_i32_1827
  let v3591 : BitVec 32 := Scalar.addi v3590 c0_i32_1828
  let v3592 : Index := Scalar.indexCast v3591
  ![14, v3592.toNat]
def k0_off16 (i : grid0.Coords) (c0_i32_1939 : BitVec 32) : Fin 2 → Nat :=
  let c15 : Index := 15#32
  let arg1 : BitVec 32 := BitVec.ofNat 32 (i 1).val
  let c16_i32_1938 : BitVec 32 := 16#32
  let v3782 : BitVec 32 := Scalar.muli arg1 c16_i32_1938
  let v3783 : BitVec 32 := Scalar.addi v3782 c0_i32_1939
  let v3784 : Index := Scalar.indexCast v3783
  ![15, v3784.toNat]
def k0_off17 (i : grid0.Coords) (c0_i32_2050 : BitVec 32) : Fin 2 → Nat :=
  let c16 : Index := 16#32
  let arg1 : BitVec 32 := BitVec.ofNat 32 (i 1).val
  let c16_i32_2049 : BitVec 32 := 16#32
  let v3974 : BitVec 32 := Scalar.muli arg1 c16_i32_2049
  let v3975 : BitVec 32 := Scalar.addi v3974 c0_i32_2050
  let v3976 : Index := Scalar.indexCast v3975
  ![16, v3976.toNat]
def k0_cond3 (i : grid0.Coords) : BitVec 1 :=
  let arg1 : BitVec 32 := BitVec.ofNat 32 (i 1).val
  let c7_i32_2168 : BitVec 32 := 7#32
  let v4175 : BitVec 1 := Scalar.cmpi .eq arg1 c7_i32_2168
  let v4176 : BitVec 32 := Scalar.extui v4175
  let c0_i32_2169 : BitVec 32 := 0#32
  let v4177 : BitVec 1 := Scalar.cmpi .ne v4176 c0_i32_2169
  v4177

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S17x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2112x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "inv_q" => some ((1 / 1536 : ℝ) : EReal)
  | _ => none
-- ==== ReferenceIdeal.lean ====
abbrev S1x8192x16384 : Shape := ⟨3, ![1, 8192, 16384]⟩
abbrev S2112x16384 : Shape := ⟨2, ![2112, 16384]⟩
abbrev S17x128 : Shape := ⟨2, ![17, 128]⟩
abbrev S1536 : Shape := ⟨1, ![1536]⟩
abbrev S512 : Shape := ⟨1, ![512]⟩
abbrev S1 : Shape := ⟨1, ![1]⟩
abbrev S8192x128x128 : Shape := ⟨3, ![8192, 128, 128]⟩
abbrev S_ : Shape := ⟨0, ![]⟩
abbrev S8192x128 : Shape := ⟨2, ![8192, 128]⟩
abbrev S253 : Shape := ⟨1, ![253]⟩
abbrev S8192x128x1 : Shape := ⟨3, ![8192, 128, 1]⟩
abbrev S1x1x253 : Shape := ⟨3, ![1, 1, 253]⟩
abbrev S8192x128x253 : Shape := ⟨3, ![8192, 128, 253]⟩
abbrev S8192x16384 : Shape := ⟨2, ![8192, 16384]⟩
abbrev S17x128x128 : Shape := ⟨3, ![17, 128, 128]⟩
abbrev S2176x128 : Shape := ⟨2, ![2176, 128]⟩
abbrev S2112x128 : Shape := ⟨2, ![2112, 128]⟩
abbrev S2112x128x128 : Shape := ⟨3, ![2112, 128, 128]⟩
abbrev S8192x2112 : Shape := ⟨2, ![8192, 2112]⟩
abbrev S8192x1536 : Shape := ⟨2, ![8192, 1536]⟩
abbrev S8192 : Shape := ⟨1, ![8192]⟩
abbrev S8192x1 : Shape := ⟨2, ![8192, 1]⟩
abbrev S1x1536 : Shape := ⟨2, ![1, 1536]⟩
abbrev S8192x512 : Shape := ⟨2, ![8192, 512]⟩
abbrev S1x512 : Shape := ⟨2, ![1, 512]⟩
abbrev S8192x64 : Shape := ⟨2, ![8192, 64]⟩
abbrev S32 : Shape := ⟨1, ![32]⟩
abbrev S1x32 : Shape := ⟨2, ![1, 32]⟩
abbrev S8192x32 : Shape := ⟨2, ![8192, 32]⟩
abbrev S8192x32x2 : Shape := ⟨3, ![8192, 32, 2]⟩
abbrev S8192x32x1 : Shape := ⟨3, ![8192, 32, 1]⟩

abbrev nBuf : Space → Nat
  | .hbm => 151
  | .vmem => 5
  | .smem => 0
  | _ => 0

abbrev hbmTy0_0 (i : Nat) : BufTy := match i % 128 with
  | 0 => ⟨S1x8192x16384, .bf16⟩
  | 1 => ⟨S2112x16384, .fp8e4m3⟩
  | 2 => ⟨S17x128, .f32⟩
  | 3 => ⟨S1536, .bf16⟩
  | 4 => ⟨S512, .bf16⟩
  | 5 => ⟨S1, .i32⟩
  | 6 => ⟨S1x8192x16384, .f32⟩
  | 7 => ⟨S8192x128x128, .f32⟩
  | 8 => ⟨S8192x128x128, .f32⟩
  | 9 => ⟨S_, .f32⟩
  | 10 => ⟨S8192x128, .f32⟩
  | 11 => ⟨S_, .f32⟩
  | 12 => ⟨S8192x128, .f32⟩
  | 13 => ⟨S8192x128, .f32⟩
  | 14 => ⟨S253, .f32⟩
  | 15 => ⟨S_, .f32⟩
  | 16 => ⟨S253, .f32⟩
  | 17 => ⟨S253, .f32⟩
  | 18 => ⟨S_, .f32⟩
  | 19 => ⟨S253, .f32⟩
  | 20 => ⟨S253, .f32⟩
  | 21 => ⟨S8192x128x1, .f32⟩
  | 22 => ⟨S1x1x253, .f32⟩
  | 23 => ⟨S8192x128x253, .f32⟩
  | 24 => ⟨S8192x128x253, .f32⟩
  | 25 => ⟨S8192x128x253, .i1⟩
  | 26 => ⟨S_, .f32⟩
  | 27 => ⟨S_, .f32⟩
  | 28 => ⟨S8192x128x253, .f32⟩
  | 29 => ⟨S8192x128x253, .f32⟩
  | 30 => ⟨S8192x128x253, .f32⟩
  | 31 => ⟨S_, .f32⟩
  | 32 => ⟨S8192x128, .f32⟩
  | 33 => ⟨S_, .f32⟩
  | 34 => ⟨S8192x128, .f32⟩
  | 35 => ⟨S8192x128, .i1⟩
  | 36 => ⟨S_, .f32⟩
  | 37 => ⟨S_, .f32⟩
  | 38 => ⟨S8192x128, .f32⟩
  | 39 => ⟨S8192x128, .f32⟩
  | 40 => ⟨S_, .f32⟩
  | 41 => ⟨S8192x128, .f32⟩
  | 42 => ⟨S8192x128, .f32⟩
  | 43 => ⟨S8192x128x1, .f32⟩
  | 44 => ⟨S8192x128x128, .f32⟩
  | 45 => ⟨S8192x128x128, .f32⟩
  | 46 => ⟨S_, .f32⟩
  | 47 => ⟨S_, .f32⟩
  | 48 => ⟨S_, .f32⟩
  | 49 => ⟨S8192x128x128, .f32⟩
  | 50 => ⟨S8192x128x128, .f32⟩
  | 51 => ⟨S_, .f32⟩
  | 52 => ⟨S8192x128x128, .f32⟩
  | 53 => ⟨S8192x128x128, .f32⟩
  | 54 => ⟨S8192x16384, .f32⟩
  | 55 => ⟨S8192x16384, .fp8e4m3⟩
  | 56 => ⟨S8192x16384, .bf16⟩
  | 57 => ⟨S2112x16384, .bf16⟩
  | 58 => ⟨S8192x128, .bf16⟩
  | 59 => ⟨S8192x128x128, .bf16⟩
  | 60 => ⟨S8192x16384, .bf16⟩
  | 61 => ⟨S8192x16384, .bf16⟩
  | 62 => ⟨S17x128, .bf16⟩
  | 63 => ⟨S17x128x128, .bf16⟩
  | 64 => ⟨S2176x128, .bf16⟩
  | 65 => ⟨S2112x128, .bf16⟩
  | 66 => ⟨S2112x128x128, .bf16⟩
  | 67 => ⟨S2112x16384, .bf16⟩
  | 68 => ⟨S2112x16384, .bf16⟩
  | 69 => ⟨S8192x2112, .f32⟩
  | 70 => ⟨S8192x1536, .f32⟩
  | 71 => ⟨S8192x1536, .f32⟩
  | 72 => ⟨S_, .f32⟩
  | 73 => ⟨S8192, .f32⟩
  | 74 => ⟨S8192x1, .f32⟩
  | 75 => ⟨S_, .f32⟩
  | 76 => ⟨S8192x1, .f32⟩
  | 77 => ⟨S8192x1, .f32⟩
  | 78 => ⟨S_, .f32⟩
  | 79 => ⟨S8192x1, .f32⟩
  | 80 => ⟨S8192x1, .f32⟩
  | 81 => ⟨S8192x1, .f32⟩
  | 82 => ⟨S8192x1536, .f32⟩
  | 83 => ⟨S8192x1536, .f32⟩
  | 84 => ⟨S1536, .f32⟩
  | 85 => ⟨S1x1536, .f32⟩
  | 86 => ⟨S8192x1536, .f32⟩
  | 87 => ⟨S8192x1536, .f32⟩
  | 88 => ⟨S8192x1536, .bf16⟩
  | 89 => ⟨S8192x512, .f32⟩
  | 90 => ⟨S8192x512, .f32⟩
  | 91 => ⟨S_, .f32⟩
  | 92 => ⟨S8192, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192x1, .f32⟩
  | 99 => ⟨S8192x1, .f32⟩
  | 100 => ⟨S8192x1, .f32⟩
  | 101 => ⟨S8192x512, .f32⟩
  | 102 => ⟨S8192x512, .f32⟩
  | 103 => ⟨S512, .f32⟩
  | 104 => ⟨S1x512, .f32⟩
  | 105 => ⟨S8192x512, .f32⟩
  | 106 => ⟨S8192x512, .f32⟩
  | 107 => ⟨S8192x512, .bf16⟩
  | 108 => ⟨S8192x64, .f32⟩
  | 109 => ⟨S_, .i32⟩
  | 110 => ⟨S8192, .i32⟩
  | 111 => ⟨S8192, .i32⟩
  | 112 => ⟨S8192, .i32⟩
  | 113 => ⟨S8192, .f32⟩
  | 114 => ⟨S32, .f32⟩
  | 115 => ⟨S_, .f32⟩
  | 116 => ⟨S32, .f32⟩
  | 117 => ⟨S32, .f32⟩
  | 118 => ⟨S_, .f32⟩
  | 119 => ⟨S32, .f32⟩
  | 120 => ⟨S32, .f32⟩
  | 121 => ⟨S32, .f32⟩
  | 122 => ⟨S_, .f32⟩
  | 123 => ⟨S32, .f32⟩
  | 124 => ⟨S32, .f32⟩
  | 125 => ⟨S_, .f32⟩
  | 126 => ⟨S32, .f32⟩
  | 127 => ⟨S32, .f32⟩
  | _ => ⟨S1x8192x16384, .bf16⟩

abbrev hbmTy0_1 (i : Nat) : BufTy := match i % 128 with
  | 0 => ⟨S8192x1, .f32⟩
  | 1 => ⟨S1x32, .f32⟩
  | 2 => ⟨S8192x32, .f32⟩
  | 3 => ⟨S8192x32, .f32⟩
  | 4 => ⟨S8192x32, .f32⟩
  | 5 => ⟨S8192x32, .f32⟩
  | 6 => ⟨S8192x32, .f32⟩
  | 7 => ⟨S8192x32x2, .f32⟩
  | 8 => ⟨S8192x32x1, .f32⟩
  | 9 => ⟨S8192x32, .f32⟩
  | 10 => ⟨S8192x32x1, .f32⟩
  | 11 => ⟨S8192x32, .f32⟩
  | 12 => ⟨S8192x32, .f32⟩
  | 13 => ⟨S8192x32, .f32⟩
  | 14 => ⟨S8192x32, .f32⟩
  | 15 => ⟨S8192x32, .f32⟩
  | 16 => ⟨S8192x32, .f32⟩
  | 17 => ⟨S8192x32, .f32⟩
  | 18 => ⟨S8192x32x1, .f32⟩
  | 19 => ⟨S8192x32x1, .f32⟩
  | 20 => ⟨S8192x32x2, .f32⟩
  | 21 => ⟨S8192x64, .f32⟩
  | 22 => ⟨S8192x64, .bf16⟩
  | _ => ⟨S1x8192x16384, .bf16⟩

abbrev hbmTy (i : Nat) : BufTy := match i / 128 with
  | 0 => hbmTy0_0 i
  | 1 => hbmTy0_1 i
  | _ => ⟨S1x8192x16384, .bf16⟩

abbrev bufTy : (tb : Table) → Fin (tcTables nBuf tb) → BufTy
  | .hbm, ⟨i, _⟩ => hbmTy i
  | .local _ .vmem, ⟨0, _⟩ => ⟨S8192x16384, .f32⟩
  | .local _ .vmem, ⟨1, _⟩ => ⟨S2112x16384, .fp8e4m3⟩
  | .local _ .vmem, ⟨2, _⟩ => ⟨S8192x16384, .fp8e4m3⟩
  | .local _ .vmem, ⟨3, _⟩ => ⟨S8192x16384, .bf16⟩
  | .local _ .vmem, ⟨4, _⟩ => ⟨S2112x16384, .bf16⟩
  | _, _ => ⟨S1x8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v20 : Ref sig .tc := ⟨.hbm, 39, rfl⟩
abbrev main_cst_7 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_8 : Ref sig .tc := ⟨.hbm, 46, rfl⟩
abbrev main_cst_9 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v26 : Ref sig .tc := ⟨.hbm, 53, rfl⟩
abbrev main_v27 : Ref sig .tc := ⟨.hbm, 54, rfl⟩
abbrev main_v28_0 : Ref sig .tc := ⟨.hbm, 55, rfl⟩
abbrev main_v28_1 : Ref sig .tc := ⟨.hbm, 56, rfl⟩
abbrev main_v28_2 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_v46 : Ref sig .tc := ⟨.hbm, 77, rfl⟩
abbrev main_cst_12 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_cst_14 : Ref sig .tc := ⟨.hbm, 94, rfl⟩
abbrev main_v61 : Ref sig .tc := ⟨.hbm, 95, rfl⟩
abbrev main_v62 : Ref sig .tc := ⟨.hbm, 96, rfl⟩
abbrev main_cst_15 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_16 : Ref sig .tc := ⟨.hbm, 115, rfl⟩
abbrev main_v80 : Ref sig .tc := ⟨.hbm, 116, rfl⟩
abbrev main_v81 : Ref sig .tc := ⟨.hbm, 117, rfl⟩
abbrev main_cst_17 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_18 : Ref sig .tc := ⟨.hbm, 122, rfl⟩
abbrev main_v85 : Ref sig .tc := ⟨.hbm, 123, rfl⟩
abbrev main_v86 : Ref sig .tc := ⟨.hbm, 124, rfl⟩
abbrev main_cst_19 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2112x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KRuns.lean ====
module

public import proofs.«01_k».proof.Proof.Gen.Kernel.Frame
public import proofs.«01_k».proof.Proof.Gen.Kernel.Skeleton
public import proofs.«01_k».proof.Proof.Gen.Kernel.Points
public import Idealize.ShloMosaic.Lib.WordCmp
public import Idealize.ShloMosaic.Lib.Tactic
public import Idealize.ShloMosaic.Lib.Ring
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`the frame claim`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      (Pipeline.RDat.FramePost.arr_in h c 3 rfl).trans ((hA c 3).trans (V_main_arg1 m c)),
      (Pipeline.RDat.FramePost.arr_in h c 0 rfl).trans ((hA c 0).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 1 rfl).trans ((hA c 1).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 8 :=
  (by decide +kernel : ∀ t : Fin grid0.N, cond0_1 (grid0.coords t) ↔ 1 ≤ t.val % 8)

/-- The condition of the body's `scf.if` 2 (`k0_h3`), from the grid coordinates (the skeleton's scalar
    chain substituted). -/
abbrev cond0_2 (i : grid0.Coords) : Prop := k0_cond3 i = 1#1
/-- It holds at the points ≡ 7 (mod 8) — by arithmetic of the point. -/
theorem hcond0_2 : ∀ t : Fin cfg0.N, cond0_2 (grid0.coords t) ↔ t.val % 8 = 7 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S17x128 .f32 := win0_0.stage (cfg0.slots t 0)
/-- The staging buffer of the weight scales is whole. -/
abbrev hs0_0 (t : Fin cfg0.N) : (ms0_0 t).IsWhole := hstage0_0 ((cfg0.slots t 0).cast nbuf0_0)
/-- The staging buffer of the first position at a point. -/
abbrev ms0_1 (t : Fin cfg0.N) : Memref sig .tc .smem S1 .i32 := win0_1.stage (cfg0.slots t 1)
/-- The staging buffer of the first position is whole. -/
abbrev hs0_1 (t : Fin cfg0.N) : (ms0_1 t).IsWhole := hstage0_1 ((cfg0.slots t 1).cast nbuf0_1)
/-- The staging buffer of the activations at a point. -/
abbrev ms0_2 (t : Fin cfg0.N) : Memref sig .tc .vmem S512x2048 .bf16 := win0_2.stage (cfg0.slots t 2)
/-- The staging buffer of the activations is whole. -/
abbrev hs0_2 (t : Fin cfg0.N) : (ms0_2 t).IsWhole := hstage0_2 ((cfg0.slots t 2).cast nbuf0_2)
/-- The staging buffer of the weights at a point. -/
abbrev ms0_3 (t : Fin cfg0.N) : Memref sig .tc .vmem S2112x2048 .fp8e4m3 := win0_3.stage (cfg0.slots t 3)
/-- The staging buffer of the weights is whole. -/
abbrev hs0_3 (t : Fin cfg0.N) : (ms0_3 t).IsWhole := hstage0_3 ((cfg0.slots t 3).cast nbuf0_3)
/-- The staging buffer of the query gains at a point. -/
abbrev ms0_4 (t : Fin cfg0.N) : Memref sig .tc .vmem S1x1536 .bf16 := win0_4.stage (cfg0.slots t 4)
/-- The staging buffer of the query gains is whole. -/
abbrev hs0_4 (t : Fin cfg0.N) : (ms0_4 t).IsWhole := hstage0_4 ((cfg0.slots t 4).cast nbuf0_4)
/-- The staging buffer of the key-value gains at a point. -/
abbrev ms0_5 (t : Fin cfg0.N) : Memref sig .tc .vmem S1x512 .bf16 := win0_5.stage (cfg0.slots t 5)
/-- The staging buffer of the key-value gains is whole. -/
abbrev hs0_5 (t : Fin cfg0.N) : (ms0_5 t).IsWhole := hstage0_5 ((cfg0.slots t 5).cast nbuf0_5)
/-- The staging buffer of the query part at a point. -/
abbrev ms0_6 (t : Fin cfg0.N) : Memref sig .tc .vmem S512x1536 .bf16 := win0_6.stage (cfg0.slots t 6)
/-- The staging buffer of the query part is whole. -/
abbrev hs0_6 (t : Fin cfg0.N) : (ms0_6 t).IsWhole := hstage0_6 ((cfg0.slots t 6).cast nbuf0_6)
/-- The staging buffer of the key-value part at a point. -/
abbrev ms0_7 (t : Fin cfg0.N) : Memref sig .tc .vmem S512x512 .bf16 := win0_7.stage (cfg0.slots t 7)
/-- The staging buffer of the key-value part is whole. -/
abbrev hs0_7 (t : Fin cfg0.N) : (ms0_7 t).IsWhole := hstage0_7 ((cfg0.slots t 7).cast nbuf0_7)
/-- The staging buffer of the rotated part at a point. -/
abbrev ms0_8 (t : Fin cfg0.N) : Memref sig .tc .vmem S512x64 .bf16 := win0_8.stage (cfg0.slots t 8)
/-- The staging buffer of the rotated part is whole. -/
abbrev hs0_8 (t : Fin cfg0.N) : (ms0_8 t).IsWhole := hstage0_8 ((cfg0.slots t 8).cast nbuf0_8)
/-- The staging buffer of the codes at a point. -/
abbrev ms0_9 (t : Fin cfg0.N) : Memref sig .tc .vmem S512x2048 .fp8e4m3 := win0_9.stage (cfg0.slots t 9)
/-- The staging buffer of the codes is whole. -/
abbrev hs0_9 (t : Fin cfg0.N) : (ms0_9 t).IsWhole := hstage0_9 ((cfg0.slots t 9).cast nbuf0_9)
/-- The staging buffer of the scales at a point. -/
abbrev ms0_10 (t : Fin cfg0.N) : Memref sig .tc .vmem S512x128 .f32 := win0_10.stage (cfg0.slots t 10)
/-- The staging buffer of the scales is whole. -/
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2112x512 .f32 := Memref.whole cc0_scratch0
/-- The buffer of dequantised activations. -/
abbrev scM0_1 : Memref sig .tc .vmem S512x2048 .bf16 := Memref.whole cc0_scratch1
/-- The buffer of dequantised weights. -/
abbrev scM0_2 : Memref sig .tc .vmem S2112x2048 .bf16 := Memref.whole cc0_scratch2
/-- The buffer of scales. -/
abbrev scM0_3 : Memref sig .tc .vmem S512x128 .f32 := Memref.whole cc0_scratch3
/-- The scratch `arg13` the kernel carries between points, as a view: what it holds is stated through it. -/
abbrev VS0_0 : View sig .tc .vmem S2112x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KRunA.lean ====
module

public import proofs.«01_k».proof.Proof.KRuns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10336000 in
/-- The kernel body on the first reduction step of a token block: it needs its inputs at their contents and every other buffer at anything, ends, hands the
    inputs back unchanged and every other buffer at some contents. -/
theorem bodyA (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : cond0_0 i) (hc1 : ¬cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mla_proj_eq_skeleton]; unfold cc0_mla_proj_skel
  simp only [k0_part114_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part115_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Gen

end
-- ==== Proof.KRunB.lean ====
module

public import proofs.«01_k».proof.Proof.KRunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10336000 in
/-- The kernel body on a middle reduction step: it needs its inputs at their contents and every other buffer at anything, ends, hands the
    inputs back unchanged and every other buffer at some contents. -/
theorem bodyB (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mla_proj_eq_skeleton]; unfold cc0_mla_proj_skel
  simp only [k0_part114_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part115_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Gen

end
-- ==== Proof.KRunC.lean ====
module

public import proofs.«01_k».proof.Proof.KRunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10336000 in
/-- The kernel body on the last reduction step of a token block: it needs its inputs at their contents and every other buffer at anything, ends, hands the
    inputs back unchanged and every other buffer at some contents. -/
theorem bodyC (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mla_proj_eq_skeleton]; unfold cc0_mla_proj_skel
  simp only [k0_part114_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part115_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Gen

end
-- ==== Proof.KFrame.lean ====
module

public import proofs.«01_k».proof.Proof.KRunC

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel's frame: the outputs' contents are not named -/

/-- The output windows, whose contents this proof does not name. -/
def forgets0 : Fin 11 → Bool := fun w => w.val == 6 || w.val == 7 || w.val == 8 || w.val == 9 || w.val == 10

/-- The proof data of the one pipeline: the arrays as the region finds them, each input's buffer at its block after every
    point, the scratch buffers and the generator at anything, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- The body leaves input window 0's block in place, -/
theorem after0_0 (c : Dev nD) (t : Fin cfg0.N) : (dats m 0 c).after 0 t = iblk m c 0 t := by dsimp only [dats]
/-- and finds it in place. -/
theorem before0_0 (c : Dev nD) (t : Fin cfg0.N) (d) : (dats m 0 c).before 0 t d = iblk m c 0 t :=
  before0_0_of m (dats m 0 c) (A_eq m c 0) (after0_0 m c) t d
/-- The body leaves input window 1's block in place, -/
theorem after0_1 (c : Dev nD) (t : Fin cfg0.N) : (dats m 0 c).after 1 t = iblk m c 1 t := by dsimp only [dats]
/-- and finds it in place. -/
theorem before0_1 (c : Dev nD) (t : Fin cfg0.N) (d) : (dats m 0 c).before 1 t d = iblk m c 1 t :=
  before0_1_of m (dats m 0 c) (A_eq m c 1) (after0_1 m c) t d
/-- The body leaves input window 2's block in place, -/
theorem after0_2 (c : Dev nD) (t : Fin cfg0.N) : (dats m 0 c).after 2 t = iblk m c 2 t := by dsimp only [dats]
/-- and finds it in place. -/
theorem before0_2 (c : Dev nD) (t : Fin cfg0.N) (d) : (dats m 0 c).before 2 t d = iblk m c 2 t :=
  before0_2_of m (dats m 0 c) (A_eq m c 2) (after0_2 m c) t d
/-- The body leaves input window 3's block in place, -/
theorem after0_3 (c : Dev nD) (t : Fin cfg0.N) : (dats m 0 c).after 3 t = iblk m c 3 t := by dsimp only [dats]
/-- and finds it in place. -/
theorem before0_3 (c : Dev nD) (t : Fin cfg0.N) (d) : (dats m 0 c).before 3 t d = iblk m c 3 t :=
  before0_3_of m (dats m 0 c) (A_eq m c 3) (after0_3 m c) t d
/-- The body leaves input window 4's block in place, -/
theorem after0_4 (c : Dev nD) (t : Fin cfg0.N) : (dats m 0 c).after 4 t = iblk m c 4 t := by dsimp only [dats]
/-- and finds it in place. -/
theorem before0_4 (c : Dev nD) (t : Fin cfg0.N) (d) : (dats m 0 c).before 4 t d = iblk m c 4 t :=
  before0_4_of m (dats m 0 c) (A_eq m c 4) (after0_4 m c) t d
/-- The body leaves input window 5's block in place, -/
theorem after0_5 (c : Dev nD) (t : Fin cfg0.N) : (dats m 0 c).after 5 t = iblk m c 5 t := by dsimp only [dats]
/-- and finds it in place. -/
theorem before0_5 (c : Dev nD) (t : Fin cfg0.N) (d) : (dats m 0 c).before 5 t d = iblk m c 5 t :=
  before0_5_of m (dats m 0 c) (A_eq m c 5) (after0_5 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 14400000 in
/-- The body at any point: the inputs' buffers hold their blocks; the point's place in its token block says which case the
    body is in; that case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h0 : t.val % 8 = 0
  · iapply (bodyA c (grid0.coords t) _ _ _ _ _ _ _ _ _ _ _ _ _ _ _ _ _ _ _ _ _ _ _ _ _ _ _ _ _ _ ((hcond0_0 t).mpr (by omega)) (fun h => absurd ((hcond0_1 t).mp h) (by omega)) (fun h => absurd ((hcond0_2 t).mp h) (by omega)) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · by_cases h2 : t.val % 8 = 7
    · iapply (bodyC c (grid0.coords t) _ _ _ _ _ _ _ _ _ _ _ _ _ _ _ _ _ _ _ _ _ _ _ _ _ _ _ _ _ _ (fun h => absurd ((hcond0_0 t).mp h) (by omega)) ((hcond0_1 t).mpr (by omega)) ((hcond0_2 t).mpr (by omega)) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iapply (bodyB c (grid0.coords t) _ _ _ _ _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.IRuns.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.WordCmp
public import Idealize.ShloMosaic.Lib.Tactic
public import Idealize.ShloMosaic.Lib.Ring
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`the frame claim`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      (Pipeline.RDat.FramePost.arr_in h c 3 rfl).trans ((hA c 3).trans (V_main_arg1 m c)),
      (Pipeline.RDat.FramePost.arr_in h c 0 rfl).trans ((hA c 0).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 1 rfl).trans ((hA c 1).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 8 :=
  (by decide +kernel : ∀ t : Fin grid0.N, cond0_1 (grid0.coords t) ↔ 1 ≤ t.val % 8)

/-- The condition of the body's `scf.if` 2 (`k0_h3`), from the grid coordinates (the skeleton's scalar
    chain substituted). -/
abbrev cond0_2 (i : grid0.Coords) : Prop := k0_cond3 i = 1#1
/-- It holds at the points ≡ 7 (mod 8) — by arithmetic of the point. -/
theorem hcond0_2 : ∀ t : Fin cfg0.N, cond0_2 (grid0.coords t) ↔ t.val % 8 = 7 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S17x128 .f32 := win0_0.stage (cfg0.slots t 0)
/-- The staging buffer of the weight scales is whole. -/
abbrev hs0_0 (t : Fin cfg0.N) : (ms0_0 t).IsWhole := hstage0_0 ((cfg0.slots t 0).cast nbuf0_0)
/-- The staging buffer of the first position at a point. -/
abbrev ms0_1 (t : Fin cfg0.N) : Memref sig .tc .smem S1 .i32 := win0_1.stage (cfg0.slots t 1)
/-- The staging buffer of the first position is whole. -/
abbrev hs0_1 (t : Fin cfg0.N) : (ms0_1 t).IsWhole := hstage0_1 ((cfg0.slots t 1).cast nbuf0_1)
/-- The staging buffer of the activations at a point. -/
abbrev ms0_2 (t : Fin cfg0.N) : Memref sig .tc .vmem S512x2048 .bf16 := win0_2.stage (cfg0.slots t 2)
/-- The staging buffer of the activations is whole. -/
abbrev hs0_2 (t : Fin cfg0.N) : (ms0_2 t).IsWhole := hstage0_2 ((cfg0.slots t 2).cast nbuf0_2)
/-- The staging buffer of the weights at a point. -/
abbrev ms0_3 (t : Fin cfg0.N) : Memref sig .tc .vmem S2112x2048 .fp8e4m3 := win0_3.stage (cfg0.slots t 3)
/-- The staging buffer of the weights is whole. -/
abbrev hs0_3 (t : Fin cfg0.N) : (ms0_3 t).IsWhole := hstage0_3 ((cfg0.slots t 3).cast nbuf0_3)
/-- The staging buffer of the query gains at a point. -/
abbrev ms0_4 (t : Fin cfg0.N) : Memref sig .tc .vmem S1x1536 .bf16 := win0_4.stage (cfg0.slots t 4)
/-- The staging buffer of the query gains is whole. -/
abbrev hs0_4 (t : Fin cfg0.N) : (ms0_4 t).IsWhole := hstage0_4 ((cfg0.slots t 4).cast nbuf0_4)
/-- The staging buffer of the key-value gains at a point. -/
abbrev ms0_5 (t : Fin cfg0.N) : Memref sig .tc .vmem S1x512 .bf16 := win0_5.stage (cfg0.slots t 5)
/-- The staging buffer of the key-value gains is whole. -/
abbrev hs0_5 (t : Fin cfg0.N) : (ms0_5 t).IsWhole := hstage0_5 ((cfg0.slots t 5).cast nbuf0_5)
/-- The staging buffer of the query part at a point. -/
abbrev ms0_6 (t : Fin cfg0.N) : Memref sig .tc .vmem S512x1536 .bf16 := win0_6.stage (cfg0.slots t 6)
/-- The staging buffer of the query part is whole. -/
abbrev hs0_6 (t : Fin cfg0.N) : (ms0_6 t).IsWhole := hstage0_6 ((cfg0.slots t 6).cast nbuf0_6)
/-- The staging buffer of the key-value part at a point. -/
abbrev ms0_7 (t : Fin cfg0.N) : Memref sig .tc .vmem S512x512 .bf16 := win0_7.stage (cfg0.slots t 7)
/-- The staging buffer of the key-value part is whole. -/
abbrev hs0_7 (t : Fin cfg0.N) : (ms0_7 t).IsWhole := hstage0_7 ((cfg0.slots t 7).cast nbuf0_7)
/-- The staging buffer of the rotated part at a point. -/
abbrev ms0_8 (t : Fin cfg0.N) : Memref sig .tc .vmem S512x64 .bf16 := win0_8.stage (cfg0.slots t 8)
/-- The staging buffer of the rotated part is whole. -/
abbrev hs0_8 (t : Fin cfg0.N) : (ms0_8 t).IsWhole := hstage0_8 ((cfg0.slots t 8).cast nbuf0_8)
/-- The staging buffer of the codes at a point. -/
abbrev ms0_9 (t : Fin cfg0.N) : Memref sig .tc .vmem S512x2048 .fp8e4m3 := win0_9.stage (cfg0.slots t 9)
/-- The staging buffer of the codes is whole. -/
abbrev hs0_9 (t : Fin cfg0.N) : (ms0_9 t).IsWhole := hstage0_9 ((cfg0.slots t 9).cast nbuf0_9)
/-- The staging buffer of the scales at a point. -/
abbrev ms0_10 (t : Fin cfg0.N) : Memref sig .tc .vmem S512x128 .f32 := win0_10.stage (cfg0.slots t 10)
/-- The staging buffer of the scales is whole. -/
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2112x512 .f32 := Memref.whole cc0_scratch0
/-- The buffer of dequantised activations. -/
abbrev scM0_1 : Memref sig .tc .vmem S512x2048 .bf16 := Memref.whole cc0_scratch1
/-- The buffer of dequantised weights. -/
abbrev scM0_2 : Memref sig .tc .vmem S2112x2048 .bf16 := Memref.whole cc0_scratch2
/-- The buffer of scales. -/
abbrev scM0_3 : Memref sig .tc .vmem S512x128 .f32 := Memref.whole cc0_scratch3
/-- The scratch `arg13` the kernel carries between points, as a view: what it holds is stated through it. -/
abbrev VS0_0 : View sig .tc .vmem S2112x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.IRunA.lean ====
module

public import proofs.«01_k».proof.Proof.IRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 10256000 in
/-- What the body's stores leave on the first reduction step of a token block: for each buffer the stored pieces, last first, together with the proof that the
    body, given its inputs at `x·`, the carried scratch buffers at `xs·` and every other buffer at anything, ends with the inputs as they
    were and each buffer with its pieces written. The pieces are read off the run. -/
noncomputable def kernelRun0_A (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : cond0_0 i) (hc1 : ¬cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs3 : Vec F S512x128 .f32) :
    Σ' (L6 : List (View.Piece (Elt F) S512x1536 .bf16)), Σ' (L7 : List (View.Piece (Elt F) S512x512 .bf16)), Σ' (L8 : List (View.Piece (Elt F) S512x64 .bf16)), Σ' (L9 : List (View.Piece (Elt F) S512x2048 .fp8e4m3)), Σ' (L10 : List (View.Piece (Elt F) S512x128 .f32)), Σ' (LS0 : List (View.Piece (Elt F) S2112x512 .f32)), Σ' (LT1 : List (View.Piece (Elt F) S512x2048 .bf16)), Σ' (LT2 : List (View.Piece (Elt F) S2112x2048 .bf16)), { LS3 : List (View.Piece (Elt F) S512x128 .f32) //
      ∀ (xi6 : Vec F S512x1536 .bf16) (xi7 : Vec F S512x512 .bf16) (xi8 : Vec F S512x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LS3)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], [], ?_, ?_, ?_, ?_, ?_, ?_, fun xi6 xi7 xi8 E K => ?run⟩
  case run =>
    simp only [cc0_mla_proj_eq_skeleton]; unfold cc0_mla_proj_skel
    simp only [k0_part114_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part115_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg16.eq_unread hfs3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [HS0]; · iexists _; iexact HS0
    isplitl [HS1]; · iexists _; iexact HS1
    isplitl [HS2]; · iexists _; iexact HS2
    iexists _; iexact HS3

end Cert.KernelIdeal.Gen

end
-- ==== Proof.IRunB.lean ====
module

public import proofs.«01_k».proof.Proof.IRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 10260000 in
/-- What the body's stores leave on a middle reduction step: for each buffer the stored pieces, last first, together with the proof that the
    body, given its inputs at `x·`, the carried scratch buffers at `xs·` and every other buffer at anything, ends with the inputs as they
    were and each buffer with its pieces written. The pieces are read off the run. -/
noncomputable def kernelRun0_B (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    Σ' (L6 : List (View.Piece (Elt F) S512x1536 .bf16)), Σ' (L7 : List (View.Piece (Elt F) S512x512 .bf16)), Σ' (L8 : List (View.Piece (Elt F) S512x64 .bf16)), Σ' (L9 : List (View.Piece (Elt F) S512x2048 .fp8e4m3)), Σ' (L10 : List (View.Piece (Elt F) S512x128 .f32)), Σ' (LS0 : List (View.Piece (Elt F) S2112x512 .f32)), Σ' (LT1 : List (View.Piece (Elt F) S512x2048 .bf16)), Σ' (LT2 : List (View.Piece (Elt F) S2112x2048 .bf16)), { LS3 : List (View.Piece (Elt F) S512x128 .f32) //
      ∀ (xi6 : Vec F S512x1536 .bf16) (xi7 : Vec F S512x512 .bf16) (xi8 : Vec F S512x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LS3)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], [], ?_, ?_, ?_, ?_, ?_, ?_, fun xi6 xi7 xi8 E K => ?run⟩
  case run =>
    simp only [cc0_mla_proj_eq_skeleton]; unfold cc0_mla_proj_skel
    simp only [k0_part114_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part115_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs0; obtain rfl := harg16.eq_unread hfs3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [HS0]; · iexists _; iexact HS0
    isplitl [HS1]; · iexists _; iexact HS1
    isplitl [HS2]; · iexists _; iexact HS2
    iexists _; iexact HS3

end Cert.KernelIdeal.Gen

end
-- ==== Proof.IRunC.lean ====
module

public import proofs.«01_k».proof.Proof.IRunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 10336000 in
/-- What the body's stores leave on the last reduction step of a token block: for each buffer the stored pieces, last first, together with the proof that the
    body, given its inputs at `x·`, the carried scratch buffers at `xs·` and every other buffer at anything, ends with the inputs as they
    were and each buffer with its pieces written. The pieces are read off the run. -/
noncomputable def kernelRun0_C (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    Σ' (L6 : List (View.Piece (Elt F) S512x1536 .bf16)), Σ' (L7 : List (View.Piece (Elt F) S512x512 .bf16)), Σ' (L8 : List (View.Piece (Elt F) S512x64 .bf16)), Σ' (L9 : List (View.Piece (Elt F) S512x2048 .fp8e4m3)), Σ' (L10 : List (View.Piece (Elt F) S512x128 .f32)), Σ' (LS0 : List (View.Piece (Elt F) S2112x512 .f32)), Σ' (LT1 : List (View.Piece (Elt F) S512x2048 .bf16)), Σ' (LT2 : List (View.Piece (Elt F) S2112x2048 .bf16)), { LS3 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LT1) ∗ (∃ f, arg15.view.loc (c : Thread nD τ) ↦[arg15.view.set]{fullShare} arg15.view.writes (Elt F) f LT2) ∗ (∃ f, arg16.view.loc (c : Thread nD τ) ↦[arg16.view.set]{fullShare} arg16.view.writes (Elt F) f LS3)) -∗ K ⟨⟩))
          ⊢ wp frame (wpE (defs₀ (F := F)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, fun E K => ?run⟩
  case run =>
    simp only [cc0_mla_proj_eq_skeleton]; unfold cc0_mla_proj_skel
    simp only [k0_part114_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part115_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg13.eq_unread hfs0; obtain rfl := harg16.eq_unread hfs3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    iexists _; iexact HS3

end Cert.KernelIdeal.Gen

end
-- ==== Proof.IVal.lean ====
module
public import proofs.«01_k».proof.Proof.IRunA
public import proofs.«01_k».proof.Proof.IRunB
public import proofs.«01_k».proof.Proof.IRunC
@[expose] public section
set_option maxRecDepth 1000000
noncomputable section
namespace Cert.KernelIdeal.Gen
open Idealize.ShloMosaic Idealize.ShloMosaic.TcCoe Idealize.SL.Sem
variable {F : FTy → Type} [FloatOps F] [Named F]

/-! The written pieces of one run of the body, as lists indexed by the 128-column group and the
128-row block instead of 16, 256 or 272 separate stores. -/

/-- A group of 128 columns of a token tile lies in the tile. -/
theorem inbX (g : Fin 16) : ∀ a, (![0, 128 * g.val] : Fin 2 → ℕ) a + S512x128.size a ≤ S512x2048.size a := by revert g; decide
/-- A 128 by 128 tile of the weights lies in the weight block. -/
theorem inbW (n g : Fin 16) : ∀ a, (![128 * n.val, 128 * g.val] : Fin 2 → ℕ) a + S128x128.size a ≤ S2112x2048.size a := by revert n g; decide
/-- A tile of the last 64 rows lies in the weight block. -/
theorem inbT (g : Fin 16) : ∀ a, (![2048, 128 * g.val] : Fin 2 → ℕ) a + S64x128.size a ≤ S2112x2048.size a := by revert g; decide

/-- The activations of group `g`, as loaded. -/
def xgR (arg4 : Memref sig .tc .vmem S512x2048 .bf16) (harg4 : arg4.IsWhole) (x2 : Vec F S512x2048 .bf16) (g : Fin 16) : Vec F S512x128 .bf16 :=
  View.readAt (Elt F) arg4.view (Rect.unit (s := S512x2048) ![0, 128 * g.val] S512x128.size (inbX g)).toLoadRect (harg4.unread x2)
/-- The stores of the fp8 codes, last first. -/
def codesL (arg4 : Memref sig .tc .vmem S512x2048 .bf16) (harg4 : arg4.IsWhole) (x2 : Vec F S512x2048 .bf16) : List (View.Piece (Elt F) S512x2048 .fp8e4m3) :=
  (List.finRange 16).reverse.map fun g => ⟨Rect.unit (s := S512x2048) ![0, 128 * g.val] S512x128.size (inbX g), k0_pay15 (xgR arg4 harg4 x2 g)⟩
/-- The stores of the dequantised activations, last first. -/
def xwL (arg4 : Memref sig .tc .vmem S512x2048 .bf16) (harg4 : arg4.IsWhole) (x2 : Vec F S512x2048 .bf16) : List (View.Piece (Elt F) S512x2048 .bf16) :=
  (List.finRange 16).reverse.map fun g => ⟨Rect.unit (s := S512x2048) ![0, 128 * g.val] S512x128.size (inbX g), k0_pay16 (k0_pay14 (xgR arg4 harg4 x2 g)) (k0_pay15 (xgR arg4 harg4 x2 g))⟩

/-- The place of the weight scale of row block `n` and group `g`. -/
def wOff (i : grid0.Coords) (n g : ℕ) : Fin 2 → ℕ :=
  ![n, (Scalar.indexCast (Scalar.addi (Scalar.muli (BitVec.ofNat 32 (i 1).val) 16#32) (BitVec.ofNat 32 g)) : Index).toNat]
/-- It is column `16 k + g`. -/
theorem wOff_eq (i : grid0.Coords) (n : ℕ) (g : Fin 16) : wOff i n g.val = ![n, 16 * (i 1).val + g.val] := by
  have h : (i 1).val < 8 := (i 1).isLt
  have hg : g.val < 16 := g.isLt
  have : (Scalar.indexCast (Scalar.addi (Scalar.muli (BitVec.ofNat 32 (i 1).val) 16#32) (BitVec.ofNat 32 g.val)) : Index).toNat = 16 * (i 1).val + g.val := by
    generalize (i 1).val = k at h
    generalize g.val = j at hg
    interval_cases k <;> interval_cases j <;> rfl
  rw [wOff, this]
/-- A weight-scale offset lies inside the array. -/
theorem wOff_inb (i : grid0.Coords) (n : Fin 17) (g : Fin 16) : ∀ a, wOff i n.val g.val a + S1x1.size a ≤ S17x128.size a := by
  have h : (i 1).val < 8 := (i 1).isLt
  have hg : g.val < 16 := g.isLt
  have hn : n.val < 17 := n.isLt
  rw [wOff_eq]
  intro a
  match a with
  | ⟨0, _⟩ => show n.val + 1 ≤ 17; omega
  | ⟨1, _⟩ => show 16 * (i 1).val + g.val + 1 ≤ 128; omega
/-- The weight scale of row block `n` and group `g`, as loaded. -/
def wsR (i : grid0.Coords) (arg2 : Memref sig .tc .smem S17x128 .f32) (harg2 : arg2.IsWhole) (x0 : Vec F S17x128 .f32) (n : Fin 17) (g : Fin 16) : Elt F .f32 :=
  View.readAt (Elt F) arg2.view (Rect.unit (s := S17x128) (wOff i n.val g.val) S1x1.size (wOff_inb i n g)).toLoadRect (harg2.unread x0) (Shape.Idx.first (lt_of_lt_of_eq Nat.one_pos numel1_S1x1.symm))
/-- A 128 by 128 tile of dequantised weights. -/
def wTile (v : Elt F .f32) (w : Vec F S128x128 .fp8e4m3) : FVec F S128x128 .bf16 :=
  shapeCast S128x128 (mulf (extf .bf16 w bitsLt_fp8e4m3_bf16) (broadcast S128x128 (Scalar.truncf .bf16 bitsLt_bf16_f32 v))) shapeCasts_S128x128_S128x128
/-- The stores of the dequantised weights, last first. -/
def wwL (i : grid0.Coords) (arg2 : Memref sig .tc .smem S17x128 .f32) (harg2 : arg2.IsWhole) (arg5 : Memref sig .tc .vmem S2112x2048 .fp8e4m3) (harg5 : arg5.IsWhole)
    (x0 : Vec F S17x128 .f32) (x3 : Vec F S2112x2048 .fp8e4m3) : List (View.Piece (Elt F) S2112x2048 .bf16) :=
  ((List.finRange 16).reverse.map fun g => ⟨Rect.unit (s := S2112x2048) ![2048, 128 * g.val] S64x128.size (inbT g),
    k0_pay1 (wsR i arg2 harg2 x0 16 g) (View.readAt (Elt F) arg5.view (Rect.unit (s := S2112x2048) ![2048, 128 * g.val] S64x128.size (inbT g)).toLoadRect (harg5.unread x3))⟩)
  ++ (List.finRange 16).reverse.flatMap fun n => (List.finRange 16).reverse.map fun g => ⟨Rect.unit (s := S2112x2048) ![128 * n.val, 128 * g.val] S128x128.size (inbW n g),
    wTile (wsR i arg2 harg2 x0 n.castSucc g) (View.readAt (Elt F) arg5.view (Rect.unit (s := S2112x2048) ![128 * n.val, 128 * g.val] S128x128.size (inbW n g)).toLoadRect (harg5.unread x3))⟩
/-- One group's scale put into its lane. -/
def scStep (i : grid0.Coords) (g : Fin 16) (s : Vec F S512x128 .f32) (v29 : FVec F S512x1 .f32) : FVec F S512x128 .f32 :=
  select (cmpi .eq (iota .tc S512x128 32 [1] iota_S512x128_d1_w32) (broadcast S512x128 (Scalar.addi (Scalar.muli (BitVec.ofNat 32 (i 1).val) 16#32) (BitVec.ofNat 32 g.val))))
    (broadcastTo S512x128 (shapeCast S512x1 v29 shapeCasts_S512x1_S512x1) broadcasts_S512x1_S512x128) s
/-- The lanes of the scales after the 16 groups. -/
def scV (i : grid0.Coords) (arg4 : Memref sig .tc .vmem S512x2048 .bf16) (harg4 : arg4.IsWhole) (x2 : Vec F S512x2048 .bf16) (s : Vec F S512x128 .f32) : Vec F S512x128 .f32 :=
  (List.finRange 16).foldl (fun s g => scStep i g s (k0_pay14 (xgR arg4 harg4 x2 g))) s
/-- The scales already held. -/
def scR (arg16 : Memref sig .tc .vmem S512x128 .f32) (harg16 : arg16.IsWhole) (xs3 : Vec F S512x128 .f32) : Vec F S512x128 .f32 :=
  View.readAt (Elt F) arg16.view (Rect.unit (s := S512x128) ![0, 0] S512x128.size inb_S512x128_S512x128_0_0).toLoadRect (harg16.unread xs3)
/-- The dequantised activations, read back. -/
def xwR (arg4 : Memref sig .tc .vmem S512x2048 .bf16) (harg4 : arg4.IsWhole) (arg14 : Memref sig .tc .vmem S512x2048 .bf16) (x2 : Vec F S512x2048 .bf16) : Vec F S512x2048 .bf16 :=
  arg14.view.readCov (xwL arg4 harg4 x2) (Rect.unit (s := S512x2048) ![0, 0] S512x2048.size inb_S512x2048_S512x2048_0_0).toLoadRect
/-- The dequantised weights, read back. -/
def wwR (i : grid0.Coords) (arg2 : Memref sig .tc .smem S17x128 .f32) (harg2 : arg2.IsWhole) (arg5 : Memref sig .tc .vmem S2112x2048 .fp8e4m3) (harg5 : arg5.IsWhole)
    (arg15 : Memref sig .tc .vmem S2112x2048 .bf16) (x0 : Vec F S17x128 .f32) (x3 : Vec F S2112x2048 .fp8e4m3) : Vec F S2112x2048 .bf16 :=
  arg15.view.readCov (wwL i arg2 harg2 arg5 harg5 x0 x3) (Rect.unit (s := S2112x2048) ![0, 0] S2112x2048.size inb_S2112x2048_S2112x2048_0_0).toLoadRect
/-- The accumulator of a first chunk. -/
def accA (v : Vec F S2112x2048 .bf16) (w : Vec F S512x2048 .bf16) : List (View.Piece (Elt F) S2112x512 .f32) :=
  [⟨Rect.unit (s := S2112x512) ![0, 0] S2112x512.size inb_S2112x512_S2112x512_0_0, k0_pay3 v w⟩]
/-- The accumulator of a later chunk. -/
def accB (v : Vec F S2112x2048 .bf16) (w : Vec F S512x2048 .bf16) (a : Vec F S2112x512 .f32) : List (View.Piece (Elt F) S2112x512 .f32) :=
  [⟨Rect.unit (s := S2112x512) ![0, 0] S2112x512.size inb_S2112x512_S2112x512_0_0, k0_pay4 v w a⟩]
/-- The accumulator already held. -/
def accR (arg13 : Memref sig .tc .vmem S2112x512 .f32) (harg13 : arg13.IsWhole) (xs0 : Vec F S2112x512 .f32) : Vec F S2112x512 .f32 :=
  View.readAt (Elt F) arg13.view (Rect.unit (s := S2112x512) ![0, 0] S2112x512.size inb_S2112x512_S2112x512_0_0).toLoadRect (harg13.unread xs0)

/-- Case A: what is written, L9. -/
theorem valA_L9 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : cond0_0 i) (hc1 : ¬cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs3 : Vec F S512x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.1 = codesL arg4 harg4 x2 := by
  sl_kernel_rfl
/-- Case A: what is written, L10. -/
theorem valA_L10 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : cond0_0 i) (hc1 : ¬cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs3 : Vec F S512x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.1 = [⟨Rect.unit (s := S512x128) ![0, 0] S512x128.size inb_S512x128_S512x128_0_0, (scV i arg4 harg4 x2 (scR arg16 harg16 xs3))⟩] := by
  sl_kernel_rfl
/-- Case A: what is written, LS0. -/
theorem valA_LS0 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : cond0_0 i) (hc1 : ¬cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs3 : Vec F S512x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.1 = accA (wwR i arg2 harg2 arg5 harg5 arg15 x0 x3) (xwR arg4 harg4 arg14 x2) := by
  sl_kernel_rfl
/-- Case A: what is written, LT1. -/
theorem valA_LT1 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : cond0_0 i) (hc1 : ¬cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs3 : Vec F S512x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.2.1 = xwL arg4 harg4 x2 := by
  sl_kernel_rfl
/-- Case A: what is written, LT2. -/
theorem valA_LT2 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : cond0_0 i) (hc1 : ¬cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs3 : Vec F S512x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.2.2.1 = wwL i arg2 harg2 arg5 harg5 x0 x3 := by
  sl_kernel_rfl
/-- Case A: what is written, LS3. -/
theorem valA_LS3 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : cond0_0 i) (hc1 : ¬cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs3 : Vec F S512x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.2.2.2.1 = [⟨Rect.unit (s := S512x128) ![0, 0] S512x128.size inb_S512x128_S512x128_0_0, shapeCast S512x128 (scV i arg4 harg4 x2 (scR arg16 harg16 xs3)) shapeCasts_S512x128_S512x128⟩] := by
  sl_kernel_rfl
/-- Case B: what is written, L9. -/
theorem valB_L9 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.1 = codesL arg4 harg4 x2 := by
  sl_kernel_rfl
/-- Case B: what is written, L10. -/
theorem valB_L10 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.1 = [⟨Rect.unit (s := S512x128) ![0, 0] S512x128.size inb_S512x128_S512x128_0_0, (scV i arg4 harg4 x2 (scR arg16 harg16 xs3))⟩] := by
  sl_kernel_rfl
/-- Case B: what is written, LS0. -/
theorem valB_LS0 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.1 = accB (wwR i arg2 harg2 arg5 harg5 arg15 x0 x3) (xwR arg4 harg4 arg14 x2) (accR arg13 harg13 xs0) := by
  sl_kernel_rfl
/-- Case B: what is written, LT1. -/
theorem valB_LT1 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.1 = xwL arg4 harg4 x2 := by
  sl_kernel_rfl
/-- Case B: what is written, LT2. -/
theorem valB_LT2 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.1 = wwL i arg2 harg2 arg5 harg5 x0 x3 := by
  sl_kernel_rfl
/-- Case B: what is written, LS3. -/
theorem valB_LS3 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : ¬cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.2.1 = [⟨Rect.unit (s := S512x128) ![0, 0] S512x128.size inb_S512x128_S512x128_0_0, shapeCast S512x128 (scV i arg4 harg4 x2 (scR arg16 harg16 xs3)) shapeCasts_S512x128_S512x128⟩] := by
  sl_kernel_rfl
/-- Case C: what is written, L9. -/
theorem valC_L9 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.1 = codesL arg4 harg4 x2 := by
  sl_kernel_rfl
/-- Case C: what is written, L10. -/
theorem valC_L10 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.1 = [⟨Rect.unit (s := S512x128) ![0, 0] S512x128.size inb_S512x128_S512x128_0_0, (scV i arg4 harg4 x2 (scR arg16 harg16 xs3))⟩] := by
  sl_kernel_rfl
/-- Case C: what is written, LS0. -/
theorem valC_LS0 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.1 = accB (wwR i arg2 harg2 arg5 harg5 arg15 x0 x3) (xwR arg4 harg4 arg14 x2) (accR arg13 harg13 xs0) := by
  sl_kernel_rfl
/-- Case C: what is written, LT1. -/
theorem valC_LT1 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.1 = xwL arg4 harg4 x2 := by
  sl_kernel_rfl
/-- Case C: what is written, LT2. -/
theorem valC_LT2 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.1 = wwL i arg2 harg2 arg5 harg5 x0 x3 := by
  sl_kernel_rfl
/-- Case C: what is written, LS3. -/
theorem valC_LS3 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.2.1 = [⟨Rect.unit (s := S512x128) ![0, 0] S512x128.size inb_S512x128_S512x128_0_0, shapeCast S512x128 (scV i arg4 harg4 x2 (scR arg16 harg16 xs3)) shapeCasts_S512x128_S512x128⟩] := by
  sl_kernel_rfl
/-- Case C: what is written, L6. -/
theorem valC_L6 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).1 = [⟨Rect.unit (s := S512x1536) ![0, 0] S512x1536.size inb_S512x1536_S512x1536_0_0, k0_pay6 (arg13.view.readCov (accB (wwR i arg2 harg2 arg5 harg5 arg15 x0 x3) (xwR arg4 harg4 arg14 x2) (accR arg13 harg13 xs0)) (Rect.unit (s := S2112x512) ![0, 0] S1536x512.size inb_S2112x512_S1536x512_0_0).toLoadRect) (View.readAt (Elt F) arg6.view (Rect.unit (s := S1x1536) ![0, 0] S1x1536.size inb_S1x1536_S1x1536_0_0).toLoadRect (harg6.unread x4))⟩] := by
  sl_kernel_rfl
/-- Case C: what is written, L7. -/
theorem valC_L7 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.1 = [⟨Rect.unit (s := S512x512) ![0, 0] S512x512.size inb_S512x512_S512x512_0_0, k0_pay7 (arg13.view.readCov (accB (wwR i arg2 harg2 arg5 harg5 arg15 x0 x3) (xwR arg4 harg4 arg14 x2) (accR arg13 harg13 xs0)) (Rect.unit (s := S2112x512) ![1536, 0] S512x512.size inb_S2112x512_S512x512_1536_0).toLoadRect) (View.readAt (Elt F) arg7.view (Rect.unit (s := S1x512) ![0, 0] S1x512.size inb_S1x512_S1x512_0_0).toLoadRect (harg7.unread x5))⟩] := by
  sl_kernel_rfl
/-- Case C: what is written, L8. -/
theorem valC_L8 (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : cond0_2 i)
    (x0 : Vec F S17x128 .f32) (x1 : Vec F S1 .i32) (x2 : Vec F S512x2048 .bf16) (x3 : Vec F S2112x2048 .fp8e4m3) (x4 : Vec F S1x1536 .bf16) (x5 : Vec F S1x512 .bf16) (xs0 : Vec F S2112x512 .f32) (xs3 : Vec F S512x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.1 = [⟨Rect.unit (s := S512x64) ![0, 0] S512x64.size inb_S512x64_S512x64_0_0, k0_pay5 (k0_pay8 (arg13.view.readCov (accB (wwR i arg2 harg2 arg5 harg5 arg15 x0 x3) (xwR arg4 harg4 arg14 x2) (accR arg13 harg13 xs0)) (Rect.unit (s := S2112x512) ![2048, 0] S64x512.size inb_S2112x512_S64x512_2048_0).toLoadRect)) (iota .tc S512x64 32 [1] iota_S512x64_d1_w32)
      (k0_pay10 (BitVec.ofNat 32 (i 0).val) (View.readAt (Elt F) arg3.view (Rect.unit (s := S1) ![0] S1.size inb_S1_S1_0).toLoadRect (harg3.unread x1) (Shape.Idx.first (lt_of_lt_of_eq Nat.one_pos numel1_S1.symm))))
      (k0_pay11 (BitVec.ofNat 32 (i 0).val) (View.readAt (Elt F) arg3.view (Rect.unit (s := S1) ![0] S1.size inb_S1_S1_0).toLoadRect (harg3.unread x1) (Shape.Idx.first (lt_of_lt_of_eq Nat.one_pos numel1_S1.symm)))) 2#32⟩] := by
  sl_kernel_rfl
end Cert.KernelIdeal.Gen
end
-- ==== Proof.Pow2.lean ====
module

public import Idealize.ShloMosaic.Lib.Pointwise

@[expose] public section

set_option maxRecDepth 16384

noncomputable section

/-! The power-of-two scale of a block, as the kernel builds it out of exponent fields and as the reference writes it. -/

namespace Cert.Pow2

open Idealize.ShloMosaic

/-- The word whose exponent field is `j`. -/
def field (j : ℕ) : BitVec 32 := IntOp.shli ArithUnit.vector (BitVec.ofNat 32 j) 23#32

/-- The float that word is. -/
def fl (j : ℕ) : EReal := Ideal.ofBits FTy.f32 (field j)

/-- The greatest exponent field whose power of two is at most `y`, as the kernel takes it. -/
def expo (y : EReal) : BitVec 32 :=
  Finset.univ.fold IntOp.maxsi (2147483648#32) fun x : Fin 256 => if y < fl x then 0#32 else field x

/-- The bits of the scale. -/
def bits (y : EReal) : BitVec 32 :=
  Scalar.select (IntOp.cmpi CmpIPredicate.eq (expo y) 0#32) (1065353216#32) (IntOp.addi (expo y) 8388608#32)

/-- The scale. -/
def scale (y : EReal) : EReal := Ideal.ofBits FTy.f32 (bits y)

/-- Its inverse, by the same integer arithmetic. -/
def inv (y : EReal) : EReal := Ideal.ofBits FTy.f32 (IntOp.subi (2130706432#32) (bits y))

/-- Field `j` is `j * 2 ^ 23`. -/
theorem field_eq : ∀ j : Fin 256, field j = BitVec.ofNat 32 (j.val * 2 ^ 23) := by
  unfold field; decide +kernel

/-- The sign, exponent and fraction of a field. -/
theorem field_parts : ∀ j : Fin 255, (((BitVec.ofNat 32 (j.val * 2 ^ 23)).extractLsb' 31 1 == 1#1) = false) ∧
    ((BitVec.ofNat 32 (j.val * 2 ^ 23)).extractLsb' 23 8).toNat = j.val ∧
    ((BitVec.ofNat 32 (j.val * 2 ^ 23)).extractLsb' 0 23).toNat = 0 := by
  decide +kernel

/-- A normal exponent field `j` reads as `2 ^ (j - 127)`. -/
theorem fl_eq (j : ℕ) (h1 : 1 ≤ j) (h2 : j ≤ 254) : fl j = (((2 : ℝ) ^ ((j : ℤ) - 127) : ℝ) : EReal) := by
  obtain ⟨ha, hb, hc⟩ := field_parts ⟨j, by omega⟩
  unfold fl
  rw [field_eq ⟨j, by omega⟩]
  simp only [Ideal.ofBits, Ideal.ieee]
  simp only at ha hb hc
  rw [ha, hb, hc, if_neg (by omega), if_neg (by omega)]
  congr 1
  simp only [Bool.false_eq_true, if_false, one_mul, add_zero]
  push_cast
  rw [show (8388608 : ℝ) = (2 : ℝ) ^ (23 : ℤ) by norm_num, ← zpow_add₀ (by norm_num)]
  congr 1; ring

/-- Field 0 reads as zero. -/
theorem fl_zero : fl 0 = 0 := by
  have : field 0 = 0#32 := by decide
  unfold fl; rw [this]; exact Ideal.ofBits_zero_f32

/-- Field 255 reads as infinity. -/
theorem fl_top : fl 255 = ⊤ := by
  have : field 255 = 0x7F800000#32 := by decide
  unfold fl; rw [this]; simp [Ideal.ofBits, Ideal.ieee]

/-- The fields read in increasing order. -/
theorem fl_lt {i j : ℕ} (hi : i < j) (hj : j ≤ 254) : fl i < fl j := by
  rcases Nat.eq_zero_or_pos i with rfl | h
  · rw [fl_zero, fl_eq j (by omega) hj]; exact EReal.coe_pos.mpr (by positivity)
  · rw [fl_eq j (by omega) hj, fl_eq i h (by omega)]
    exact EReal.coe_lt_coe_iff.mpr (zpow_lt_zpow_right₀ (by norm_num) (by omega))

/-- The same, not strictly. -/
theorem fl_le {i j : ℕ} (hi : i ≤ j) (hj : j ≤ 254) : fl i ≤ fl j := by
  rcases hi.eq_or_lt with rfl | h
  · exact le_rfl
  · exact (fl_lt h hj).le

/-- The maximum of the fields up to `n` is field `n`. -/
theorem fold_field : ∀ n : Fin 254, (Finset.univ.fold IntOp.maxsi (2147483648#32) fun x : Fin 256 =>
    if n.val < x.val then 0#32 else BitVec.ofNat 32 (x.val * 2 ^ 23)) = BitVec.ofNat 32 (n.val * 2 ^ 23) := by
  decide +kernel

/-- The greatest field at most `y`, for `y` between two neighbours. -/
theorem expo_eq {y : EReal} {n : ℕ} (hn : n < 254) (h1 : fl n ≤ y) (h2 : y < fl (n + 1)) :
    expo y = BitVec.ofNat 32 (n * 2 ^ 23) := by
  rw [← fold_field ⟨n, hn⟩]
  unfold expo
  refine Finset.fold_congr fun x _ => ?_
  have hx := x.isLt
  by_cases h : n < x.val
  · have : y < fl x := by
      refine h2.trans_le ?_
      by_cases h5 : x.val = 255
      · rw [h5, fl_top]; exact le_top
      · exact fl_le h (by omega)
    rw [if_pos this, if_pos h]
  · rw [if_neg (not_lt.mpr ((fl_le (by omega) (by omega)).trans h1)), if_neg h, field_eq x]

/-- Between two neighbouring powers. -/
theorem exists_between {y : EReal} (h0 : 0 ≤ y) (N : ℕ) (hN : N ≤ 254) (h : y < fl N) :
    ∃ n < N, fl n ≤ y ∧ y < fl (n + 1) := by
  induction N with
  | zero => exact absurd h (not_lt.mpr (fl_zero ▸ h0))
  | succ N ih =>
    by_cases h' : y < fl N
    · obtain ⟨n, hn, hh⟩ := ih (by omega) h'
      exact ⟨n, by omega, hh⟩
    · exact ⟨N, by omega, not_lt.mp h', h⟩

/-- The word of 1. -/
theorem one_bits : Ideal.ofBits FTy.f32 1065353216#32 = 1 := Ideal.ofBits_one_f32

/-- Below the least normal number the scale and its inverse are 1. -/
theorem scale_zero {y : EReal} (h1 : fl 0 ≤ y) (h2 : y < fl 1) : scale y = 1 ∧ inv y = 1 := by
  have hb : bits y = 1065353216#32 := by
    unfold bits; rw [expo_eq (by omega) h1 h2]; decide
  unfold scale inv
  rw [hb, show IntOp.subi (2130706432#32) (1065353216#32) = 1065353216#32 from by decide]
  exact ⟨one_bits, one_bits⟩

/-- The words of the scale and its inverse are fields. -/
theorem bits_words : ∀ n : Fin 253, 1 ≤ n.val →
    Scalar.select (IntOp.cmpi CmpIPredicate.eq (BitVec.ofNat 32 (n.val * 2 ^ 23)) 0#32) (1065353216#32)
      (IntOp.addi (BitVec.ofNat 32 (n.val * 2 ^ 23)) 8388608#32) = field (n.val + 1) ∧
    IntOp.subi (2130706432#32) (field (n.val + 1)) = field (253 - n.val) := by
  unfold field; decide +kernel

/-- Between two powers of two the scale is the upper one and the inverse its inverse. -/
theorem scale_pos {y : EReal} {n : ℕ} (hn1 : 1 ≤ n) (hn : n < 253) (h1 : fl n ≤ y) (h2 : y < fl (n + 1)) :
    scale y = (((2 : ℝ) ^ ((n : ℤ) - 126) : ℝ) : EReal) ∧ inv y = (((2 : ℝ) ^ (126 - (n : ℤ)) : ℝ) : EReal) := by
  obtain ⟨ha, hb⟩ := bits_words ⟨n, hn⟩ hn1
  have hs : bits y = field (n + 1) := by
    unfold bits; rw [expo_eq (by omega) h1 h2]; exact ha
  unfold scale inv
  rw [hs]
  constructor
  · have := fl_eq (n + 1) (by omega) (by omega)
    rw [show fl (n + 1) = Ideal.ofBits FTy.f32 (field (n + 1)) from rfl] at this
    rw [this]; congr 2; push_cast; ring
  · have := fl_eq (253 - n) (by omega) (by omega)
    simp only at hb
    rw [hb, show Ideal.ofBits FTy.f32 (field (253 - n)) = fl (253 - n) from rfl, this]
    congr 2; omega

/-! The reference's form. -/

/-- The reference's table of powers. -/
def power (i : ℕ) : EReal := (((2 : ℝ) ^ ((i : ℤ) - 125) : ℝ) : EReal)

/-- The least of the reference's powers above `y`. -/
def above (y : EReal) : EReal := Finset.univ.fold min ⊤ fun i : Fin 253 => if y < power i then power i else ⊤

/-- The reference's scale between two powers of two is the upper one. -/
theorem above_eq {y : EReal} {n : ℕ} (hn1 : 1 ≤ n) (hn : n < 253) (h1 : fl n ≤ y) (h2 : y < fl (n + 1)) :
    above y = (((2 : ℝ) ^ ((n : ℤ) - 126) : ℝ) : EReal) := by
  rw [fl_eq n hn1 (by omega)] at h1
  rw [fl_eq (n + 1) (by omega) (by omega)] at h2
  have hp : (((2 : ℝ) ^ ((n : ℤ) - 126) : ℝ) : EReal) = power (n - 1) := by
    unfold power; congr 2; omega
  apply le_antisymm
  · unfold above
    rw [Finset.fold_min_le]
    refine Or.inr ⟨⟨n - 1, by omega⟩, Finset.mem_univ _, ?_⟩
    rw [if_pos]
    · exact hp.ge
    · refine h2.trans_eq ?_
      unfold power; congr 2; push_cast; omega
  · unfold above
    rw [Finset.le_fold_min]
    refine ⟨le_top, fun i _ => ?_⟩
    split
    · rename_i h
      have h3 := h1.trans_lt h
      unfold power at h3 ⊢
      have h4 := (zpow_lt_zpow_iff_right₀ (by norm_num : (1 : ℝ) < 2)).mp (EReal.coe_lt_coe_iff.mp h3)
      exact EReal.coe_le_coe_iff.mpr (zpow_le_zpow_right₀ (by norm_num) (by omega))
    · exact le_top

/-- The least normal number. -/
theorem tiny : Ideal.ofBits FTy.f32 0x00800000#32 = fl 1 := by
  have : field 1 = 0x00800000#32 := by decide
  unfold fl; rw [this]

/-- The kernel's scale and inverse are the reference's, for a quotient `y` below `2 ^ 126`. -/
theorem scale_eq {y : EReal} (h0 : 0 ≤ y) (h : y < fl 253) :
    scale y = (if y < fl 1 then 1 else above y) ∧ inv y = Ideal.div 1 (scale y) := by
  obtain ⟨n, hn, h1, h2⟩ := exists_between h0 253 (by omega) h
  rcases Nat.eq_zero_or_pos n with rfl | hp
  · obtain ⟨hs, hi⟩ := scale_zero h1 h2
    rw [if_pos h2, hs, hi]
    refine ⟨rfl, ?_⟩
    unfold Ideal.div
    rw [if_neg one_ne_zero, one_mul]
    exact (EReal.coe_eq_coe_iff.mpr (inv_one (G := ℝ)).symm : ((1 : ℝ) : EReal) = _)
  · obtain ⟨hs, hi⟩ := scale_pos hp hn h1 h2
    rw [if_neg (not_lt.mpr ((fl_le hp (by omega)).trans h1)), above_eq hp hn h1 h2]
    refine ⟨hs, ?_⟩
    rw [hi, hs]
    have hne : (((2 : ℝ) ^ ((n : ℤ) - 126) : ℝ) : EReal) ≠ 0 :=
      (EReal.coe_pos.mpr (by positivity)).ne'
    unfold Ideal.div
    rw [if_neg hne, one_mul, ← EReal.coe_inv, ← zpow_neg, neg_sub]

end Cert.Pow2

end
-- ==== Proof.Spec.lean ====
module

public import proofs.«01_k».proof.Proof.Pow2
public import proofs.«01_k».proof.KernelIdeal

@[expose] public section

set_option maxRecDepth 16384

noncomputable section

/-! The values the kernel computes, as plain functions over the extended reals. -/

namespace Cert.Spec

open Idealize.ShloMosaic Cert.KernelIdeal

/-- The quotient of a group's greatest magnitude by the fp8 bound, as the kernel multiplies it out. -/
def yOf (f : Fin 128 → EReal) : EReal :=
  Finset.univ.fold max (Ideal.ofBits .f32 4286578688#32) (fun l => max (f l) (-(f l))) * Ideal.ofBits .f32 991054117#32
/-- The scale of a group. -/
def scOf (f : Fin 128 → EReal) : EReal := Pow2.scale (yOf f)
/-- The code of one element of a group. -/
def codeOf (f : Fin 128 → EReal) (l : Fin 128) : EReal :=
  min (Ideal.ofBits .f32 1138753536#32) (max (Ideal.ofBits .f32 3286237184#32) (f l * Pow2.inv (yOf f)))

/-- Group `G` of row `r` of the activations. -/
def row (x : Fin 8192 → Fin 16384 → EReal) (r : Fin 8192) (G : Fin 128) (l : Fin 128) : EReal :=
  x r ⟨128 * G.val + l.val, by omega⟩
/-- The code at row `r`, column `d`. -/
def code (x : Fin 8192 → Fin 16384 → EReal) (r : Fin 8192) (d : Fin 16384) : EReal :=
  codeOf (row x r ⟨d.val / 128, by omega⟩) ⟨d.val % 128, by omega⟩
/-- The dequantised activation at row `r`, column `d`. -/
def xw (x : Fin 8192 → Fin 16384 → EReal) (r : Fin 8192) (d : Fin 16384) : EReal :=
  code x r d * scOf (row x r ⟨d.val / 128, by omega⟩)
/-- The dequantised weight at row `n`, column `d`. -/
def ww (w : Fin 2112 → Fin 16384 → EReal) (s : Fin 17 → Fin 128 → EReal) (n : Fin 2112) (d : Fin 16384) : EReal :=
  w n d * s ⟨n.val / 128, by omega⟩ ⟨d.val / 128, by omega⟩
/-- The projection. -/
def y (x : Fin 8192 → Fin 16384 → EReal) (w : Fin 2112 → Fin 16384 → EReal) (s : Fin 17 → Fin 128 → EReal) (n : Fin 2112) (r : Fin 8192) : EReal :=
  ∑ d : Fin 16384, ww w s n d * xw x r d

/-- The variance guard. -/
def eps : EReal := Ideal.ofBits .f32 897988541#32
/-- The normalised first 1536 columns of a row `Y` of the projection. -/
def q (Y : Fin 2112 → EReal) (g : Fin 1536 → EReal) (o : Fin 1536) : EReal :=
  Y ⟨o.val, by omega⟩ * Ideal.rsqrt ((∑ k : Fin 1536, Y ⟨k.val, by omega⟩ * Y ⟨k.val, by omega⟩) * ((1 / 1536 : ℝ) : EReal) + eps) * g o
/-- The normalised next 512 columns. -/
def kv (Y : Fin 2112 → EReal) (g : Fin 512 → EReal) (o : Fin 512) : EReal :=
  Y ⟨1536 + o.val, by omega⟩ * Ideal.rsqrt ((∑ k : Fin 512, Y ⟨1536 + k.val, by omega⟩ * Y ⟨1536 + k.val, by omega⟩) * Ideal.ofBits .f32 989855744#32 + eps) * g o
/-- The rotation angle of lane `j` at position `p`. -/
def ang (p : BitVec 32) (j : Fin 64) : EReal :=
  FloatOps.sitofp (F := Ideal) .f32 p * Ideal.exp (FloatOps.sitofp (F := Ideal) .f32 (BitVec.ofNat 32 (2 * (j.val / 2)))
    * Ideal.div (0 - Scalar.log (F := Ideal) (φ := .f32) (Ideal.ofBits .f32 1176256512#32)) (Ideal.ofBits .f32 1115684864#32))
/-- The rotated last 64 columns. -/
def pe (Y : Fin 2112 → EReal) (p : BitVec 32) (j : Fin 64) : EReal :=
  Y ⟨2048 + j.val, by omega⟩ * Ideal.cos (ang p j)
    + (if j.val % 2 = 0 then 0 - Y ⟨2048 + (j.val + 64 - 63) % 64, by omega⟩ else Y ⟨2048 + (j.val + 64 - 1) % 64, by omega⟩) * Ideal.sin (ang p j)

end Cert.Spec
end
-- ==== Proof.IPoint.lean ====
module
public import proofs.«01_k».proof.Proof.IVal
public import proofs.«01_k».proof.Proof.Spec
public import Idealize.ShloMosaic.Lib.Pointwise
public import Idealize.ShloMosaic.Lib.Pipeline.ValueKit
public import Idealize.ShloMosaic.Lib.WholeRead
public import Idealize.ShloMosaic.Lib.VecWindow
@[expose] public section
set_option maxRecDepth 16384
noncomputable section

/-! What one run of the body leaves, element by element, over the extended reals. -/

namespace Cert.KernelIdeal.Val
open Cert.KernelIdeal Cert.KernelIdeal.Gen
open Idealize.ShloMosaic Idealize.ShloMosaic.TcCoe Idealize.SL.Sem

/-- A group's scale bits. -/
theorem pay13_at (v : Vec Ideal S512x128 .bf16) (i : S512x1.Idx) :
    k0_pay13 (F := Ideal) v i = Pow2.bits (Spec.yOf fun l => v (ix2 (i 0) l)) := by
  pointwise [k0_pay13, k0_pay12]
  rfl
/-- A group's scale. -/
theorem pay14_at (v : Vec Ideal S512x128 .bf16) (i : S512x1.Idx) :
    k0_pay14 (F := Ideal) v i = Spec.scOf fun l => v (ix2 (i 0) l) := by
  pointwise [k0_pay14, pay13_at]
  rfl
/-- A code. -/
theorem pay15_at (v : Vec Ideal S512x128 .bf16) (i : S512x128.Idx) :
    k0_pay15 (F := Ideal) v i = Spec.codeOf (fun l => v (ix2 (i 0) l)) (i 1) := by
  idx_vars i
  pointwise [k0_pay15, k0_pay12, pay13_at]
  rfl
/-- A dequantised activation. -/
theorem pay16_at (v : Vec Ideal S512x1 .f32) (w : Vec Ideal S512x128 .fp8e4m3) (i : S512x128.Idx) :
    k0_pay16 (F := Ideal) v w i = w i * v (ix2 (i 0) 0) := by
  pointwise [k0_pay16]
/-- A dequantised weight of the last rows. -/
theorem pay1_at (v : EReal) (w : Vec Ideal S64x128 .fp8e4m3) (i : S64x128.Idx) :
    k0_pay1 (F := Ideal) v w i = w i * v := by
  pointwise [k0_pay1]
/-- A dequantised weight. -/
theorem wTile_at (v : EReal) (w : Vec Ideal S128x128 .fp8e4m3) (i : S128x128.Idx) :
    wTile (F := Ideal) v w i = w i * v := by
  pointwise [wTile]
/-- A chunk's product. -/
theorem pay3_at (a : Vec Ideal S2112x2048 .bf16) (b : Vec Ideal S512x2048 .bf16) (i : S2112x512.Idx) :
    k0_pay3 (F := Ideal) a b i = ∑ k : Fin 2048, a (ix2 (i 0) k) * b (ix2 (i 1) k) := by
  pointwise [k0_pay3, k0_pay2]
/-- A chunk's product added on. -/
theorem pay4_at (a : Vec Ideal S2112x2048 .bf16) (b : Vec Ideal S512x2048 .bf16) (s : Vec Ideal S2112x512 .f32) (i : S2112x512.Idx) :
    k0_pay4 (F := Ideal) a b s i = s i + ∑ k : Fin 2048, a (ix2 (i 0) k) * b (ix2 (i 1) k) := by
  pointwise [k0_pay4, k0_pay2]
/-- One lane of the scales. -/
theorem scStep_at (i : grid0.Coords) (g : Fin 16) (s : Vec Ideal S512x128 .f32) (v : Vec Ideal S512x1 .f32) (j : S512x128.Idx) :
    scStep (F := Ideal) i g s v j = if (j 1).val = 16 * (i 1).val + g.val then v (ix2 (j 0) 0) else s j := by
  have hi : (i 1).val < 8 := (i 1).isLt
  have hj : (j 1).val < 128 := (j 1).isLt
  have hg : g.val < 16 := g.isLt
  have e : (BitVec.ofNat 32 (j 1).val = Scalar.addi (Scalar.muli (BitVec.ofNat 32 (i 1).val) 16#32) (BitVec.ofNat 32 g.val)) ↔ (j 1).val = 16 * (i 1).val + g.val := by
    have h1 : Scalar.addi (Scalar.muli (BitVec.ofNat 32 (i 1).val) 16#32) (BitVec.ofNat 32 g.val) = BitVec.ofNat 32 (16 * (i 1).val + g.val) := by
      show BitVec.ofNat 32 (i 1).val * 16#32 + BitVec.ofNat 32 g.val = _
      apply BitVec.eq_of_toNat_eq
      simp only [BitVec.toNat_add, BitVec.toNat_mul, BitVec.toNat_ofNat]
      omega
    rw [h1]
    constructor
    · intro h
      have := congrArg BitVec.toNat h
      simp only [BitVec.toNat_ofNat] at this
      omega
    · intro h; rw [h]
  pointwise [scStep]
  generalize Scalar.addi (Scalar.muli (BitVec.ofNat 32 (i 1).val) 16#32) (BitVec.ofNat 32 g.val) = E at e ⊢
  by_cases h : (j 1).val = 16 * (i 1).val + g.val
  · rw [if_pos h, e.mpr h]; simp [Scalar.select, IntOp.cmpi]
  · rw [if_neg h]
    have h' : ¬ BitVec.ofNat 32 (j 1).val = E := fun q => h (e.mp q)
    have hb : (BitVec.ofNat 32 (j 1).val == E) = false := beq_eq_false_iff_ne.mpr h'
    simp only [Scalar.select, IntOp.cmpi, hb]
    rfl

/-! ## Blocks -/

/-- Group `G` of row `r` of a tile of activations. -/
def grpB (x2 : Vec Ideal S512x2048 .bf16) (r : Fin 512) (G : Fin 16) (l : Fin 128) : EReal := x2 (ix2 r ⟨128 * G.val + l.val, by omega⟩)

/-- Where the stores of group `g` put an element. -/
theorem emb_X (g : Fin 16) (x : (Rect.unit (s := S512x2048) ![0, 128 * g.val] S512x128.size (inbX g)).shape.Idx) :
    ∃ (r : Fin 512) (l : Fin 128), x = ix2 r l ∧ (Rect.unit (s := S512x2048) ![0, 128 * g.val] S512x128.size (inbX g)).emb x = ix2 r ⟨128 * g.val + l.val, by omega⟩ := by
  have hx : S512x128.Idx := x
  refine ⟨x 0, x 1, ?_, ?_⟩
  · funext a; match a with
    | ⟨0, _⟩ => rfl
    | ⟨1, _⟩ => rfl
  · funext a; apply Fin.ext
    rw [ValueKit.rect_emb_unit_val]
    match a with
    | ⟨0, _⟩ => exact Nat.zero_add _
    | ⟨1, _⟩ => rfl

/-- What is loaded for group `g` is group `g` of the tile. -/
theorem xgR_at (arg4 : Memref sig .tc .vmem S512x2048 .bf16) (harg4 : arg4.IsWhole) (x2 : Vec Ideal S512x2048 .bf16) (g : Fin 16) (r : Fin 512) (l : Fin 128) :
    xgR arg4 harg4 x2 g (ix2 r l) = grpB x2 r g l := by
  unfold xgR grpB
  refine (harg4.readAt_unread x2 _ _).trans (congrArg x2 ?_)
  funext a; apply Fin.ext
  match a with
  | ⟨0, _⟩ => show 0 + 1 * r.val = r.val; omega
  | ⟨1, _⟩ => show 128 * g.val + 1 * l.val = 128 * g.val + l.val; omega

/-- A value given by group is the value at the index. -/
def byGrp (f : Fin 512 → Fin 16 → Fin 128 → EReal) (j : S512x2048.Idx) : EReal :=
  f (j 0) ⟨(j 1).val / 128, by have : (j 1).val < 2048 := (j 1).isLt; omega⟩ ⟨(j 1).val % 128, Nat.mod_lt _ (by norm_num)⟩
/-- Read at lane `l` of group `g`. -/
theorem byGrp_at (f : Fin 512 → Fin 16 → Fin 128 → EReal) (r : Fin 512) (g : Fin 16) (l : Fin 128) :
    byGrp f (ix2 r ⟨128 * g.val + l.val, by omega⟩) = f r g l := by
  have h1 : (128 * g.val + l.val) / 128 = g.val := by omega
  have h2 : (128 * g.val + l.val) % 128 = l.val := by omega
  show f r ⟨(128 * g.val + l.val) / 128, _⟩ ⟨(128 * g.val + l.val) % 128, _⟩ = _
  exact congrArg₂ (f r) (Fin.ext h1) (Fin.ext h2)

/-- Every element lies in some group's store. -/
theorem cover_X (y : S512x2048.Idx) : ∃ g : Fin 16, y ∈ (Rect.unit (s := S512x2048) ![0, 128 * g.val] S512x128.size (inbX g)).set := by
  have h0 : (y 0).val < 512 := (y 0).isLt
  have h1 : (y 1).val < 2048 := (y 1).isLt
  refine ⟨⟨(y 1).val / 128, by omega⟩, Rect.mem_set_unit.mpr fun a => ?_⟩
  match a with
  | ⟨0, _⟩ => exact ⟨Nat.zero_le _, by show (y 0).val < 0 + 512; omega⟩
  | ⟨1, _⟩ => exact ⟨by show 128 * ((y 1).val / 128) ≤ (y 1).val; omega, by show (y 1).val < 128 * ((y 1).val / 128) + 128; omega⟩

/-- The stores of 16 groups, read as one block. -/
theorem canon_X {e : EltTy} (w : Fin 16 → S512x128.Idx → Elt Ideal e) (f : S512x2048.Idx → Elt Ideal e)
    (h : ∀ g r l, w g (ix2 r l) = f (ix2 r ⟨128 * g.val + l.val, by omega⟩)) :
    (∀ y, ∃ p ∈ ((List.finRange 16).reverse.map fun g => (⟨Rect.unit (s := S512x2048) ![0, 128 * g.val] S512x128.size (inbX g), w g⟩ : View.Piece (Elt Ideal) S512x2048 e)), y ∈ p.1.set)
    ∧ View.canon ((List.finRange 16).reverse.map fun g => (⟨Rect.unit (s := S512x2048) ![0, 128 * g.val] S512x128.size (inbX g), w g⟩ : View.Piece (Elt Ideal) S512x2048 e)) = f := by
  have hc : ∀ y, ∃ p ∈ ((List.finRange 16).reverse.map fun g => (⟨Rect.unit (s := S512x2048) ![0, 128 * g.val] S512x128.size (inbX g), w g⟩ : View.Piece (Elt Ideal) S512x2048 e)), y ∈ p.1.set := by
    intro y
    obtain ⟨g, hg⟩ := cover_X y
    exact ⟨_, List.mem_map.mpr ⟨g, List.mem_reverse.mpr (List.mem_finRange g), rfl⟩, hg⟩
  refine ⟨hc, funext fun y => ?_⟩
  refine View.canon_apply_of_pieces f _ ?_ y (hc y)
  intro p hp x
  obtain ⟨g, -, rfl⟩ := List.mem_map.mp hp
  obtain ⟨r, l, hx, he⟩ := emb_X g x
  rw [he, hx]
  exact h g r l

/-- The codes of a tile. -/
def codesB (x2 : Vec Ideal S512x2048 .bf16) : S512x2048.Idx → EReal := byGrp fun r g l => Spec.codeOf (grpB x2 r g) l
/-- The dequantised activations of a tile. -/
def xwB (x2 : Vec Ideal S512x2048 .bf16) : S512x2048.Idx → EReal := byGrp fun r g l => Spec.codeOf (grpB x2 r g) l * Spec.scOf (grpB x2 r g)

/-- A row of a loaded group. -/
theorem xg_row (arg4 : Memref sig .tc .vmem S512x2048 .bf16) (harg4 : arg4.IsWhole) (x2 : Vec Ideal S512x2048 .bf16) (g : Fin 16) (r : Fin 512) :
    (fun l => xgR arg4 harg4 x2 g (ix2 r l)) = grpB x2 r g := funext fun l => xgR_at arg4 harg4 x2 g r l

/-- The stored codes. -/
theorem codesL_at (arg4 : Memref sig .tc .vmem S512x2048 .bf16) (harg4 : arg4.IsWhole) (x2 : Vec Ideal S512x2048 .bf16) :
    (∀ y, ∃ p ∈ codesL arg4 harg4 x2, y ∈ p.1.set) ∧ View.canon (codesL arg4 harg4 x2) = codesB x2 :=
  canon_X (e := .fp8e4m3) (fun g => k0_pay15 (xgR arg4 harg4 x2 g)) (codesB x2) fun g r l => by
    rw [pay15_at]
    show Spec.codeOf (fun l => xgR arg4 harg4 x2 g (ix2 r l)) l = _
    rw [xg_row]
    exact (byGrp_at (fun r g l => Spec.codeOf (grpB x2 r g) l) r g l).symm
/-- The stored dequantised activations. -/
theorem xwL_at (arg4 : Memref sig .tc .vmem S512x2048 .bf16) (harg4 : arg4.IsWhole) (x2 : Vec Ideal S512x2048 .bf16) :
    (∀ y, ∃ p ∈ xwL arg4 harg4 x2, y ∈ p.1.set) ∧ View.canon (xwL arg4 harg4 x2) = xwB x2 :=
  canon_X (e := .bf16) (fun g => k0_pay16 (k0_pay14 (xgR arg4 harg4 x2 g)) (k0_pay15 (xgR arg4 harg4 x2 g))) (xwB x2) fun g r l => by
    rw [pay16_at, pay15_at, pay14_at]
    show Spec.codeOf (fun l => xgR arg4 harg4 x2 g (ix2 r l)) l * Spec.scOf (fun l => xgR arg4 harg4 x2 g (ix2 r l)) = _
    rw [xg_row]
    exact (byGrp_at (fun r g l => Spec.codeOf (grpB x2 r g) l * Spec.scOf (grpB x2 r g)) r g l).symm

/-- The dequantised weights of a block. -/
def wwB (i : grid0.Coords) (x0 : Vec Ideal S17x128 .f32) (x3 : Vec Ideal S2112x2048 .fp8e4m3) (j : S2112x2048.Idx) : EReal :=
  x3 j * x0 (ix2 ⟨(j 0).val / 128, by have : (j 0).val < 2112 := (j 0).isLt; omega⟩
    ⟨16 * (i 1).val + (j 1).val / 128, by have : (j 1).val < 2048 := (j 1).isLt; have : (i 1).val < 8 := (i 1).isLt; omega⟩)

/-- The weight scale loaded. -/
theorem wsR_at (i : grid0.Coords) (arg2 : Memref sig .tc .smem S17x128 .f32) (harg2 : arg2.IsWhole) (x0 : Vec Ideal S17x128 .f32) (n : Fin 17) (g : Fin 16) :
    wsR i arg2 harg2 x0 n g = x0 (ix2 n ⟨16 * (i 1).val + g.val, by have : (i 1).val < 8 := (i 1).isLt; omega⟩) := by
  unfold wsR
  refine (harg2.readAt_unread x0 _ _).trans (congrArg x0 ?_)
  have h := wOff_eq i n.val g
  funext a; apply Fin.ext
  match a with
  | ⟨0, _⟩ =>
    have h0 := congrFun h 0
    show wOff i n.val g.val 0 + 1 * _ = n.val
    rw [h0]; show n.val + 1 * 0 = n.val; omega
  | ⟨1, _⟩ =>
    have h0 := congrFun h 1
    show wOff i n.val g.val 1 + 1 * _ = 16 * (i 1).val + g.val
    rw [h0]; show 16 * (i 1).val + g.val + 1 * 0 = _; omega

/-- The stored dequantised weights. -/
theorem wwL_at (i : grid0.Coords) (arg2 : Memref sig .tc .smem S17x128 .f32) (harg2 : arg2.IsWhole) (arg5 : Memref sig .tc .vmem S2112x2048 .fp8e4m3) (harg5 : arg5.IsWhole)
    (x0 : Vec Ideal S17x128 .f32) (x3 : Vec Ideal S2112x2048 .fp8e4m3) :
    (∀ y, ∃ p ∈ wwL i arg2 harg2 arg5 harg5 x0 x3, y ∈ p.1.set) ∧ View.canon (wwL i arg2 harg2 arg5 harg5 x0 x3) = wwB i x0 x3 := by
  have hc : ∀ y, ∃ p ∈ wwL i arg2 harg2 arg5 harg5 x0 x3, y ∈ p.1.set := by
    intro y
    have h0 : (y 0).val < 2112 := (y 0).isLt
    have h1 : (y 1).val < 2048 := (y 1).isLt
    by_cases h : (y 0).val < 2048
    · refine ⟨_, List.mem_append_right _ (List.mem_flatMap.mpr ⟨⟨(y 0).val / 128, by omega⟩, List.mem_reverse.mpr (List.mem_finRange _),
        List.mem_map.mpr ⟨⟨(y 1).val / 128, by omega⟩, List.mem_reverse.mpr (List.mem_finRange _), rfl⟩⟩), (Rect.mem_set_unit (inb := inbW ⟨(y 0).val / 128, by omega⟩ ⟨(y 1).val / 128, by omega⟩)).mpr fun a => ?_⟩
      match a with
      | ⟨0, _⟩ => exact ⟨by show 128 * ((y 0).val / 128) ≤ (y 0).val; omega, by show (y 0).val < 128 * ((y 0).val / 128) + 128; omega⟩
      | ⟨1, _⟩ => exact ⟨by show 128 * ((y 1).val / 128) ≤ (y 1).val; omega, by show (y 1).val < 128 * ((y 1).val / 128) + 128; omega⟩
    · refine ⟨_, List.mem_append_left _ (List.mem_map.mpr ⟨⟨(y 1).val / 128, by omega⟩, List.mem_reverse.mpr (List.mem_finRange _), rfl⟩), (Rect.mem_set_unit (inb := inbT ⟨(y 1).val / 128, by omega⟩)).mpr fun a => ?_⟩
      match a with
      | ⟨0, _⟩ => exact ⟨by show 2048 ≤ (y 0).val; omega, by show (y 0).val < 2048 + 64; omega⟩
      | ⟨1, _⟩ => exact ⟨by show 128 * ((y 1).val / 128) ≤ (y 1).val; omega, by show (y 1).val < 128 * ((y 1).val / 128) + 128; omega⟩
  have key : ∀ (z z' : S2112x2048.Idx) (n : Fin 17) (g : Fin 16), z = z' → (z' 0).val / 128 = n.val → (z' 1).val / 128 = g.val →
      x3 z * wsR i arg2 harg2 x0 n g = wwB i x0 x3 z' := by
    intro z z' n g hz hn hg
    subst hz
    rw [wsR_at]
    unfold wwB
    congr 2
    funext a; apply Fin.ext
    match a with
    | ⟨0, _⟩ => exact hn.symm
    | ⟨1, _⟩ => show 16 * (i 1).val + g.val = 16 * (i 1).val + (z 1).val / 128; omega
  refine ⟨hc, funext fun y => View.canon_apply_of_pieces _ _ ?_ y (hc y)⟩
  intro p hp x
  rcases List.mem_append.mp hp with hp | hp
  · obtain ⟨g, -, rfl⟩ := List.mem_map.mp hp
    have hx0 : (x 0).val < 64 := (x 0).isLt
    have hx1 : (x 1).val < 128 := (x 1).isLt
    refine (pay1_at _ _ _).trans ?_
    rw [harg5.readAt_unread]
    refine key _ _ 16 g rfl ?_ ?_
    · show (2048 + 1 * (x 0).val) / 128 = 16; omega
    · show (128 * g.val + 1 * (x 1).val) / 128 = g.val; omega
  · obtain ⟨n, -, hp⟩ := List.mem_flatMap.mp hp
    obtain ⟨g, -, rfl⟩ := List.mem_map.mp hp
    have hx0 : (x 0).val < 128 := (x 0).isLt
    have hx1 : (x 1).val < 128 := (x 1).isLt
    refine (wTile_at _ _ _).trans ?_
    rw [harg5.readAt_unread]
    refine key _ _ n.castSucc g rfl ?_ ?_
    · show (128 * n.val + 1 * (x 0).val) / 128 = n.val; omega
    · show (128 * g.val + 1 * (x 1).val) / 128 = g.val; omega

/-- The 16 lanes after the 16 groups: those below the current chunk kept, the chunk's own set. -/
theorem scV_at (i : grid0.Coords) (arg4 : Memref sig .tc .vmem S512x2048 .bf16) (harg4 : arg4.IsWhole) (x2 : Vec Ideal S512x2048 .bf16) (s : Vec Ideal S512x128 .f32)
    (j : S512x128.Idx) : scV i arg4 harg4 x2 s j =
      if h : 16 * (i 1).val ≤ (j 1).val ∧ (j 1).val < 16 * (i 1).val + 16 then Spec.scOf (grpB x2 (j 0) ⟨(j 1).val - 16 * (i 1).val, by omega⟩) else s j := by
  have step : ∀ (L : List (Fin 16)) (s : Vec Ideal S512x128 .f32),
      (L.foldl (fun s g => scStep i g s (k0_pay14 (xgR arg4 harg4 x2 g))) s) j =
        if h : ∃ g ∈ L, (j 1).val = 16 * (i 1).val + g.val then
          Spec.scOf (grpB x2 (j 0) ⟨(j 1).val - 16 * (i 1).val, by obtain ⟨g, -, hg⟩ := h; omega⟩) else s j := by
    intro L
    induction L with
    | nil => intro s; simp
    | cons g L ih =>
      intro s
      rw [List.foldl_cons, ih, scStep_at]
      by_cases hL : ∃ g ∈ L, (j 1).val = 16 * (i 1).val + g.val
      · rw [dif_pos hL, dif_pos]
        obtain ⟨g', h1, h2⟩ := hL
        exact ⟨g', List.mem_cons_of_mem _ h1, h2⟩
      · rw [dif_neg hL]
        by_cases hg : (j 1).val = 16 * (i 1).val + g.val
        · rw [if_pos hg, dif_pos ⟨g, List.mem_cons_self, hg⟩, pay14_at]
          show Spec.scOf (fun l => xgR arg4 harg4 x2 g (ix2 (j 0) l)) = _
          have hx := xg_row arg4 harg4 x2 g (j 0)
          refine (congrArg Spec.scOf hx).trans ?_
          congr 2
          apply Fin.ext
          show g.val = (j 1).val - 16 * (i 1).val
          omega
        · rw [if_neg hg, dif_neg]
          rintro ⟨g', h1, h2⟩
          rcases List.mem_cons.mp h1 with rfl | h1
          · exact hg h2
          · exact hL ⟨g', h1, h2⟩
  unfold scV
  rw [step]
  by_cases h : 16 * (i 1).val ≤ (j 1).val ∧ (j 1).val < 16 * (i 1).val + 16
  · rw [dif_pos h, dif_pos ⟨⟨(j 1).val - 16 * (i 1).val, by omega⟩, List.mem_finRange _, by show _ = 16 * (i 1).val + ((j 1).val - 16 * (i 1).val); omega⟩]
  · rw [dif_neg h, dif_neg]
    rintro ⟨g, -, hg⟩
    have := g.isLt
    exact h ⟨by omega, by omega⟩

/-- The zero offset of a matrix. -/
theorem off2 : (![0, 0] : Fin 2 → ℕ) = fun _ => 0 := by funext a; match a with | ⟨0, _⟩ => rfl | ⟨1, _⟩ => rfl

/-- The held scales, as loaded. -/
theorem scR_eq (arg16 : Memref sig .tc .vmem S512x128 .f32) (harg16 : arg16.IsWhole) (xs3 : Vec Ideal S512x128 .f32) : scR arg16 harg16 xs3 = xs3 := by
  unfold scR
  funext x
  refine (harg16.readAt_unread xs3 _ _).trans (congrArg xs3 ?_)
  exact Rect.emb_unit_full (s := S512x128) inb_S512x128_S512x128_0_0 x
/-- The held accumulator, as loaded. -/
theorem accR_eq (arg13 : Memref sig .tc .vmem S2112x512 .f32) (harg13 : arg13.IsWhole) (xs0 : Vec Ideal S2112x512 .f32) : accR arg13 harg13 xs0 = xs0 := by
  unfold accR
  funext x
  refine (harg13.readAt_unread xs0 _ _).trans (congrArg xs0 ?_)
  exact Rect.emb_unit_full (s := S2112x512) inb_S2112x512_S2112x512_0_0 x
/-- The dequantised activations, read back. -/
theorem xwR_eq (arg4 : Memref sig .tc .vmem S512x2048 .bf16) (harg4 : arg4.IsWhole) (arg14 : Memref sig .tc .vmem S512x2048 .bf16) (x2 : Vec Ideal S512x2048 .bf16) :
    xwR arg4 harg4 arg14 x2 = xwB x2 := by
  unfold xwR
  rw [View.readCov_eq_canon', (xwL_at arg4 harg4 x2).2]
  funext x
  exact congrArg (xwB x2) (Rect.emb_unit_full (s := S512x2048) inb_S512x2048_S512x2048_0_0 x)
/-- The dequantised weights, read back. -/
theorem wwR_eq (i : grid0.Coords) (arg2 : Memref sig .tc .smem S17x128 .f32) (harg2 : arg2.IsWhole) (arg5 : Memref sig .tc .vmem S2112x2048 .fp8e4m3) (harg5 : arg5.IsWhole)
    (arg15 : Memref sig .tc .vmem S2112x2048 .bf16) (x0 : Vec Ideal S17x128 .f32) (x3 : Vec Ideal S2112x2048 .fp8e4m3) :
    wwR i arg2 harg2 arg5 harg5 arg15 x0 x3 = wwB i x0 x3 := by
  unfold wwR
  rw [View.readCov_eq_canon', (wwL_at i arg2 harg2 arg5 harg5 x0 x3).2]
  funext x
  exact congrArg (wwB i x0 x3) (Rect.emb_unit_full (s := S2112x2048) inb_S2112x2048_S2112x2048_0_0 x)

/-- One store of a whole block, read as the block. -/
theorem canon_whole {S : Shape} {e : EltTy} {off : Fin S.rank → ℕ} (h : off = fun _ => 0) (inb : ∀ a, off a + S.size a ≤ S.size a) (w : S.Idx → Elt Ideal e) :
    (∀ y, ∃ p ∈ [(⟨Rect.unit off S.size inb, w⟩ : View.Piece (Elt Ideal) S e)], y ∈ p.1.set) ∧ View.canon [(⟨Rect.unit off S.size inb, w⟩ : View.Piece (Elt Ideal) S e)] = w := by
  refine ⟨fun y => ⟨_, List.mem_singleton_self _, ?_⟩, View.canon_unit_zero h inb w⟩
  subst h
  exact (Rect.mem_set_unit (inb := inb)).mpr fun a => ⟨Nat.zero_le _, by rw [Nat.zero_add]; exact (y a).isLt⟩

/-- The chunk's product. -/
def partB (i : grid0.Coords) (x0 : Vec Ideal S17x128 .f32) (x2 : Vec Ideal S512x2048 .bf16) (x3 : Vec Ideal S2112x2048 .fp8e4m3) (j : S2112x512.Idx) : EReal :=
  ∑ k : Fin 2048, wwB i x0 x3 (ix2 (j 0) k) * xwB x2 (ix2 (j 1) k)

end Cert.KernelIdeal.Val
end
-- ==== Proof.IEpi.lean ====
module
public import proofs.«01_k».proof.Proof.IPoint
@[expose] public section
set_option maxRecDepth 16384
noncomputable section

/-! The last step of a token block: the normalisations and the rotation, element by element. -/

namespace Cert.KernelIdeal.Val
open Cert.KernelIdeal Cert.KernelIdeal.Gen
open Idealize.ShloMosaic Idealize.ShloMosaic.TcCoe Idealize.SL.Sem

/-- Twice the floor of half a lane number, as the kernel computes it. -/
theorem pairWord : ∀ j : Fin 64, IntOp.muli
    (Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 2#32 0#32))
            (Scalar.extui (Scalar.cmpi CmpIPredicate.slt 2#32 0#32))))
        (IntOp.cmpi CmpIPredicate.ne (IntOp.remsi ArithUnit.vector (BitVec.ofNat 32 j.val) 2#32) 0#32))
      (IntOp.subi (IntOp.divsi ArithUnit.vector (BitVec.ofNat 32 j.val) 2#32) 1#32)
      (IntOp.divsi ArithUnit.vector (BitVec.ofNat 32 j.val) 2#32))
    2#32 = BitVec.ofNat 32 (2 * (j.val / 2)) := by decide +kernel

/-- The parity of a lane number, as the kernel computes it. -/
theorem parityWord : ∀ j : Fin 64, IntOp.cmpi CmpIPredicate.eq
    (Scalar.select
      (IntOp.andi
        (IntOp.xori
          (IntOp.cmpi CmpIPredicate.slt
            (IntOp.remsi ArithUnit.vector (BitVec.ofNat 32 j.val)
              (Scalar.select (Scalar.cmpi CmpIPredicate.eq 2#32 0#32) 1#32 2#32))
            0#32)
          (Scalar.cmpi CmpIPredicate.slt (Scalar.select (Scalar.cmpi CmpIPredicate.eq 2#32 0#32) 1#32 2#32)
            0#32))
        (IntOp.cmpi CmpIPredicate.ne
          (IntOp.remsi ArithUnit.vector (BitVec.ofNat 32 j.val)
            (Scalar.select (Scalar.cmpi CmpIPredicate.eq 2#32 0#32) 1#32 2#32))
          0#32))
      (IntOp.addi
        (IntOp.remsi ArithUnit.vector (BitVec.ofNat 32 j.val)
          (Scalar.select (Scalar.cmpi CmpIPredicate.eq 2#32 0#32) 1#32 2#32))
        (Scalar.select (Scalar.cmpi CmpIPredicate.eq 2#32 0#32) 1#32 2#32))
      (IntOp.remsi ArithUnit.vector (BitVec.ofNat 32 j.val)
        (Scalar.select (Scalar.cmpi CmpIPredicate.eq 2#32 0#32) 1#32 2#32)))
    0#32 = BitVec.ofBool (decide (j.val % 2 = 0)) := by decide +kernel

/-- A selection on a decided word is the conditional. -/
theorem select_ofBool {α : Type} (p : Prop) [Decidable p] (a b : α) : Scalar.select (BitVec.ofBool (decide p)) a b = if p then a else b := by
  by_cases h : p <;> simp [h, Scalar.select]

/-- The position of row `r` of token block `a`. -/
theorem posWord (s : BitVec 32) (a r : ℕ) : IntOp.addi (Scalar.addi s (Scalar.muli (BitVec.ofNat 32 a) 512#32)) (BitVec.ofNat 32 r) = IntOp.addi s (BitVec.ofNat 32 (512 * a + r)) := by
  show s + BitVec.ofNat 32 a * 512#32 + BitVec.ofNat 32 r = s + BitVec.ofNat 32 (512 * a + r)
  rw [show BitVec.ofNat 32 (512 * a + r) = BitVec.ofNat 32 a * 512#32 + BitVec.ofNat 32 r from by
    apply BitVec.eq_of_toNat_eq
    simp only [BitVec.toNat_add, BitVec.toNat_mul, BitVec.toNat_ofNat]
    omega, BitVec.add_assoc]

/-- The query part. -/
theorem pay6_at (Y : Fin 512 → Fin 2112 → EReal) (a : Vec Ideal S1536x512 .f32) (l : Vec Ideal S1x1536 .bf16) (i : S512x1536.Idx)
    (h : ∀ (n : Fin 1536) (r : Fin 512), a (ix2 n r) = Y r ⟨n.val, by omega⟩) :
    k0_pay6 (F := Ideal) a l i = Spec.q (Y (i 0)) (fun o => l (ix2 0 o)) (i 1) := by
  pointwise [k0_pay6]
  have hn : Named.named (F := Ideal) (φ := FTy.f32) Cert.KernelIdeal.κ "inv_q" 975874731#32 = ((1 / 1536 : ℝ) : EReal) :=
    IdealRules.named_const.ideal_named_scalar _ _ _ _ rfl
  rw [hn, h (i 1) (i 0)]
  have hs : (∑ x : Fin 1536, a (ix2 x (i 0)) * a (ix2 x (i 0))) = ∑ k : Fin 1536, Y (i 0) ⟨k.val, by omega⟩ * Y (i 0) ⟨k.val, by omega⟩ :=
    Finset.sum_congr rfl fun k _ => by rw [h k (i 0)]
  exact congrArg (fun S : EReal => Y (i 0) ⟨(i 1).val, _⟩ * Ideal.rsqrt (S * ((1 / 1536 : ℝ) : EReal) + Spec.eps) * l (ix2 0 (i 1))) hs
/-- The key-value part. -/
theorem pay7_at (Y : Fin 512 → Fin 2112 → EReal) (a : Vec Ideal S512x512 .f32) (l : Vec Ideal S1x512 .bf16) (i : S512x512.Idx)
    (h : ∀ (n : Fin 512) (r : Fin 512), a (ix2 n r) = Y r ⟨1536 + n.val, by omega⟩) :
    k0_pay7 (F := Ideal) a l i = Spec.kv (Y (i 0)) (fun o => l (ix2 0 o)) (i 1) := by
  pointwise [k0_pay7]
  rw [h (i 1) (i 0)]
  have hs : (∑ x : Fin 512, a (ix2 x (i 0)) * a (ix2 x (i 0))) = ∑ k : Fin 512, Y (i 0) ⟨1536 + k.val, by omega⟩ * Y (i 0) ⟨1536 + k.val, by omega⟩ :=
    Finset.sum_congr rfl fun k _ => by rw [h k (i 0)]
  exact congrArg (fun S : EReal => Y (i 0) ⟨1536 + (i 1).val, _⟩ * Ideal.rsqrt (S * Ideal.ofBits .f32 989855744#32 + Spec.eps) * l (ix2 0 (i 1))) hs
/-- The rotary part. -/
theorem pay5_at (Y : Fin 512 → Fin 2112 → EReal) (A : Vec Ideal S64x512 .f32) (a : ℕ) (s : BitVec 32) (i : S512x64.Idx)
    (h : ∀ (n : Fin 64) (r : Fin 512), A (ix2 n r) = Y r ⟨2048 + n.val, by omega⟩) :
    k0_pay5 (F := Ideal) (k0_pay8 A) (iota .tc S512x64 32 [1] iota_S512x64_d1_w32) (k0_pay10 (BitVec.ofNat 32 a) s) (k0_pay11 (BitVec.ofNat 32 a) s) 2#32 i
      = Spec.pe (Y (i 0)) (IntOp.addi s (BitVec.ofNat 32 (512 * a + (i 0).val))) (i 1) := by
  pointwise [k0_pay5, k0_pay8, k0_pay10, k0_pay11, k0_pay9]
  have hj := pairWord (i 1)
  have hp := parityWord (i 1)
  rw [hj, hp, posWord, select_ofBool]
  unfold Spec.pe Spec.ang
  rw [h (i 1) (i 0), h _ (i 0), h _ (i 0)]

end Cert.KernelIdeal.Val
end
-- ==== Proof.IBlk.lean ====
module
public import proofs.«01_k».proof.Proof.IEpi
@[expose] public section
set_option maxRecDepth 16384
noncomputable section

/-! The blocks the kernel reads, as places in the argument arrays. -/

namespace Cert.KernelIdeal.Val
open Cert.KernelIdeal Cert.KernelIdeal.Gen
open Idealize.ShloMosaic Idealize.ShloMosaic.TcCoe Idealize.SL.Sem

/-- Where each point's blocks lie. -/
theorem idx0 : ∀ t : Fin cfg0.N, win0_0.index t 0 = 0 ∧ win0_0.index t 1 = 0 := (by decide +kernel : ∀ t : Fin grid0.N, win0_0.index t 0 = 0 ∧ win0_0.index t 1 = 0)
/-- Where the block of the first position lies at each point. -/
theorem idx1 : ∀ t : Fin cfg0.N, win0_1.index t 0 = 0 := (by decide +kernel : ∀ t : Fin grid0.N, win0_1.index t 0 = 0)
/-- Where the block of the activations lies at each point. -/
theorem idx2 : ∀ t : Fin cfg0.N, win0_2.index t 0 = t.val / 8 ∧ win0_2.index t 1 = t.val % 8 := (by decide +kernel : ∀ t : Fin grid0.N, win0_2.index t 0 = t.val / 8 ∧ win0_2.index t 1 = t.val % 8)
/-- Where the block of the weights lies at each point. -/
theorem idx3 : ∀ t : Fin cfg0.N, win0_3.index t 0 = 0 ∧ win0_3.index t 1 = t.val % 8 := (by decide +kernel : ∀ t : Fin grid0.N, win0_3.index t 0 = 0 ∧ win0_3.index t 1 = t.val % 8)
/-- Where the block of the query gains lies at each point. -/
theorem idx4 : ∀ t : Fin cfg0.N, win0_4.index t 0 = 0 ∧ win0_4.index t 1 = 0 := (by decide +kernel : ∀ t : Fin grid0.N, win0_4.index t 0 = 0 ∧ win0_4.index t 1 = 0)
/-- Where the block of the key-value gains lies at each point. -/
theorem idx5 : ∀ t : Fin cfg0.N, win0_5.index t 0 = 0 ∧ win0_5.index t 1 = 0 := (by decide +kernel : ∀ t : Fin grid0.N, win0_5.index t 0 = 0 ∧ win0_5.index t 1 = 0)
/-- Where the block of the query part lies at each point. -/
theorem idx6 : ∀ t : Fin cfg0.N, win0_6.index t 0 = t.val / 8 ∧ win0_6.index t 1 = 0 := (by decide +kernel : ∀ t : Fin grid0.N, win0_6.index t 0 = t.val / 8 ∧ win0_6.index t 1 = 0)
/-- Where the block of the key-value part lies at each point. -/
theorem idx7 : ∀ t : Fin cfg0.N, win0_7.index t 0 = t.val / 8 ∧ win0_7.index t 1 = 0 := (by decide +kernel : ∀ t : Fin grid0.N, win0_7.index t 0 = t.val / 8 ∧ win0_7.index t 1 = 0)
/-- Where the block of the rotated part lies at each point. -/
theorem idx8 : ∀ t : Fin cfg0.N, win0_8.index t 0 = t.val / 8 ∧ win0_8.index t 1 = 0 := (by decide +kernel : ∀ t : Fin grid0.N, win0_8.index t 0 = t.val / 8 ∧ win0_8.index t 1 = 0)
/-- Where the block of the codes lies at each point. -/
theorem idx9 : ∀ t : Fin cfg0.N, win0_9.index t 0 = t.val / 8 ∧ win0_9.index t 1 = t.val % 8 := (by decide +kernel : ∀ t : Fin grid0.N, win0_9.index t 0 = t.val / 8 ∧ win0_9.index t 1 = t.val % 8)
/-- Where the block of the scales lies at each point. -/
theorem idx10 : ∀ t : Fin cfg0.N, win0_10.index t 0 = t.val / 8 ∧ win0_10.index t 1 = 0 := (by decide +kernel : ∀ t : Fin grid0.N, win0_10.index t 0 = t.val / 8 ∧ win0_10.index t 1 = 0)
/-- The second grid coordinate of a point. -/
theorem coord1 : ∀ t : Fin cfg0.N, (grid0.coords t 1).val = t.val % 8 := (by decide +kernel : ∀ t : Fin grid0.N, (grid0.coords t 1).val = t.val % 8)
/-- The first. -/
theorem coord0 : ∀ t : Fin cfg0.N, (grid0.coords t 0).val = t.val / 8 := (by decide +kernel : ∀ t : Fin grid0.N, (grid0.coords t 0).val = t.val / 8)
/-- There are 128 grid points. -/
theorem tlt (t : Fin cfg0.N) : t.val < 128 := Nat.lt_of_lt_of_eq t.isLt N_0

variable (m : (ℓ : Loc nD τ sig) → Buf (Elt Ideal) ℓ)

/-- The activations. -/
def X (c : Dev nD) (r : Fin 8192) (d : Fin 16384) : EReal := m ((c : Thread nD τ).loc main_arg0) (ix3 0 r d)
/-- The weights. -/
def W (c : Dev nD) (n : Fin 2112) (d : Fin 16384) : EReal := m ((c : Thread nD τ).loc main_arg1) (ix2 n d)
/-- The weight scales. -/
def WS (c : Dev nD) (n : Fin 17) (g : Fin 128) : EReal := m ((c : Thread nD τ).loc main_arg2) (ix2 n g)
/-- The gains of the query part. -/
def GQ (c : Dev nD) (o : Fin 1536) : EReal := m ((c : Thread nD τ).loc main_arg3) (ix1 o)
/-- The gains of the key-value part. -/
def GK (c : Dev nD) (o : Fin 512) : EReal := m ((c : Thread nD τ).loc main_arg4) (ix1 o)
/-- The first position. -/
def ST (c : Dev nD) : BitVec 32 := m ((c : Thread nD τ).loc main_arg5) (ix1 0)

/-- The block of the weight scales read at a point, element by element. -/
theorem iblk0_at (c : Dev nD) (t : Fin cfg0.N) (n : Fin 17) (g : Fin 128) : iblk (F := Ideal) m c 0 t (ix2 n g) = WS m c n g := by
  unfold WS
  blk_simp [iblk]
  rw [V_main_arg2]
  blk_ext [idx0 t]
/-- The block of the first position read at a point, element by element. -/
theorem iblk1_at (c : Dev nD) (t : Fin cfg0.N)  : iblk (F := Ideal) m c 1 t (ix1 0) = ST m c := by
  unfold ST
  blk_simp [iblk]
  rw [V_main_arg5]
  blk_ext [idx1 t]
/-- The block of the weights read at a point, element by element. -/
theorem iblk3_at (c : Dev nD) (t : Fin cfg0.N) (n : Fin 2112) (d : Fin 2048) : iblk (F := Ideal) m c 3 t (ix2 n d) = W m c n ⟨2048 * (t.val % 8) + d.val, by omega⟩ := by
  unfold W
  blk_simp [iblk]
  rw [V_main_arg1]
  blk_ext [idx3 t]
/-- The block of the activations read at a point, element by element. -/
theorem iblk2_at (c : Dev nD) (t : Fin cfg0.N) (n : Fin 512) (d : Fin 2048) : iblk (F := Ideal) m c 2 t (ix2 n d) = X m c ⟨512 * (t.val / 8) + n.val, by have := tlt t; omega⟩ ⟨2048 * (t.val % 8) + d.val, by omega⟩ := by
  unfold X
  blk_simp [iblk]
  entry_read
  have e : ((View.whole main_v0).slice (win0_2.rect t)).emb (ix2 n d) = ix2 ⟨512 * (t.val / 8) + n.val, by have := tlt t; omega⟩ ⟨2048 * (t.val % 8) + d.val, by omega⟩ := by
    blk_ext [idx2 t]
  rw [e]
  refine (shapeCast_dropUnit_apply ![8192, 16384] _ _ _).trans ?_
  refine congrArg _ ?_
  funext a; fin_cases a <;> rfl
/-- The block of the query gains read at a point, element by element. -/
theorem iblk4_at (c : Dev nD) (t : Fin cfg0.N) (n : Fin 1536) : iblk (F := Ideal) m c 4 t (ix2 0 n) = GQ m c n := by
  unfold GQ
  blk_simp [iblk]
  entry_read
  have e : ((View.whole main_v1).slice (win0_4.rect t)).emb (ix2 0 n) = ix2 0 n := by
    blk_ext [idx4 t]
  rw [e]
  refine (shapeCast_addUnit_apply ![1536] _ _ _).trans ?_
  refine congrArg _ ?_
  funext a; fin_cases a; rfl
/-- The block of the key-value gains read at a point, element by element. -/
theorem iblk5_at (c : Dev nD) (t : Fin cfg0.N) (n : Fin 512) : iblk (F := Ideal) m c 5 t (ix2 0 n) = GK m c n := by
  unfold GK
  blk_simp [iblk]
  entry_read
  have e : ((View.whole main_v2).slice (win0_5.rect t)).emb (ix2 0 n) = ix2 0 n := by
    blk_ext [idx5 t]
  rw [e]
  refine (shapeCast_addUnit_apply ![512] _ _ _).trans ?_
  refine congrArg _ ?_
  funext a; fin_cases a; rfl
end Cert.KernelIdeal.Val
end
-- ==== Proof.IBody.lean ====
module
public import proofs.«01_k».proof.Proof.IBlk
@[expose] public section
set_option maxRecDepth 1000000
noncomputable section

/-! The body's triple, case by case, with the contents it leaves named. -/

namespace Cert.KernelIdeal.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A buffer written all over holds what was written. -/
theorem own_of {sp : Space} {S : Shape} {e : EltTy} (c : Dev nD) (arg : Memref sig .tc sp S e) (L : List (View.Piece (Elt Ideal) S e)) (X : S.Idx → Elt Ideal e)
    (h : (∀ y, ∃ p ∈ L, y ∈ p.1.set) ∧ View.canon L = X) :
    iprop(∃ f, arg.view.loc (c : Thread nD τ) ↦[arg.view.set]{fullShare} arg.view.writes (Elt Ideal) f L) ⊢ (owns (c : Thread nD τ) arg fullShare X : sProp 𝕄) := by
  unfold owns
  iintro ⟨%f, H⟩
  iexists _; isplitr; swap; · iexact H
  ipureintro; rw [View.read_writes_eq_canon _ _ _ h.1, h.2]

/-- The lanes of the scales after a chunk. -/
def scN (i : grid0.Coords) (x2 : Vec Ideal S512x2048 .bf16) (s : S512x128.Idx → EReal) (j : S512x128.Idx) : EReal :=
  if h : 16 * (i 1).val ≤ (j 1).val ∧ (j 1).val < 16 * (i 1).val + 16 then Spec.scOf (grpB x2 (j 0) ⟨(j 1).val - 16 * (i 1).val, by omega⟩) else s j
/-- The accumulator after a later chunk. -/
def accN (i : grid0.Coords) (x0 : Vec Ideal S17x128 .f32) (x2 : Vec Ideal S512x2048 .bf16) (x3 : Vec Ideal S2112x2048 .fp8e4m3) (s : S2112x512.Idx → EReal) (j : S2112x512.Idx) : EReal :=
  s j + partB i x0 x2 x3 j
/-- The query block. -/
def qB (Y : S2112x512.Idx → EReal) (x4 : S1x1536.Idx → EReal) (j : S512x1536.Idx) : EReal := Spec.q (fun n => Y (ix2 n (j 0))) (fun o => x4 (ix2 0 o)) (j 1)
/-- The key-value block. -/
def kvB (Y : S2112x512.Idx → EReal) (x5 : S1x512.Idx → EReal) (j : S512x512.Idx) : EReal := Spec.kv (fun n => Y (ix2 n (j 0))) (fun o => x5 (ix2 0 o)) (j 1)
/-- The rotated block. -/
def peB (i : grid0.Coords) (x1 : S1.Idx → BitVec 32) (Y : S2112x512.Idx → EReal) (j : S512x64.Idx) : EReal :=
  Spec.pe (fun n => Y (ix2 n (j 0))) (IntOp.addi (x1 (ix1 0)) (BitVec.ofNat 32 (512 * (i 0).val + (j 0).val))) (j 1)

/-- The scales held after a point, from those held before. -/
theorem sc_eq (i : grid0.Coords) (arg4 : Memref sig .tc .vmem S512x2048 .bf16) (harg4 : arg4.IsWhole) (arg16 : Memref sig .tc .vmem S512x128 .f32) (harg16 : arg16.IsWhole) (x2 : Vec Ideal S512x2048 .bf16) (xs3 : Vec Ideal S512x128 .f32) :
    scV i arg4 harg4 x2 (scR arg16 harg16 xs3) = scN i x2 xs3 := by
  rw [scR_eq]; exact funext fun j => scV_at i arg4 harg4 x2 xs3 j

/-- The product of a point. -/
theorem pay3_eq (i : grid0.Coords) (x0 : Vec Ideal S17x128 .f32) (x2 : Vec Ideal S512x2048 .bf16) (x3 : Vec Ideal S2112x2048 .fp8e4m3) :
    k0_pay3 (F := Ideal) (wwB i x0 x3) (xwB x2) = partB i x0 x2 x3 := funext fun j => pay3_at _ _ j
/-- The accumulator with the product of a point added. -/
theorem pay4_eq (i : grid0.Coords) (x0 : Vec Ideal S17x128 .f32) (x2 : Vec Ideal S512x2048 .bf16) (x3 : Vec Ideal S2112x2048 .fp8e4m3) (s : Vec Ideal S2112x512 .f32) :
    k0_pay4 (F := Ideal) (wwB i x0 x3) (xwB x2) s = accN i x0 x2 x3 s := funext fun j => pay4_at _ _ s j

/-- The accumulator after a first chunk. -/
theorem accA_at (i : grid0.Coords) (x0 : Vec Ideal S17x128 .f32) (x2 : Vec Ideal S512x2048 .bf16) (x3 : Vec Ideal S2112x2048 .fp8e4m3) :
    (∀ y, ∃ p ∈ accA (F := Ideal) (wwB i x0 x3) (xwB x2), y ∈ p.1.set) ∧ View.canon (accA (F := Ideal) (wwB i x0 x3) (xwB x2)) = partB i x0 x2 x3 := by
  have h := canon_whole (e := .f32) off2 inb_S2112x512_S2112x512_0_0 (k0_pay3 (F := Ideal) (wwB i x0 x3) (xwB x2))
  exact ⟨h.1, h.2.trans (pay3_eq i x0 x2 x3)⟩
/-- After a later one. -/
theorem accB_at (i : grid0.Coords) (x0 : Vec Ideal S17x128 .f32) (x2 : Vec Ideal S512x2048 .bf16) (x3 : Vec Ideal S2112x2048 .fp8e4m3) (s : Vec Ideal S2112x512 .f32) :
    (∀ y, ∃ p ∈ accB (F := Ideal) (wwB i x0 x3) (xwB x2) s, y ∈ p.1.set) ∧ View.canon (accB (F := Ideal) (wwB i x0 x3) (xwB x2) s) = accN i x0 x2 x3 s := by
  have h := canon_whole (e := .f32) off2 inb_S2112x512_S2112x512_0_0 (k0_pay4 (F := Ideal) (wwB i x0 x3) (xwB x2) s)
  exact ⟨h.1, h.2.trans (pay4_eq i x0 x2 x3 s)⟩

/-- Rows of the accumulator, read back at an offset. -/
theorem rows_at (arg13 : Memref sig .tc .vmem S2112x512 .f32) (L : List (View.Piece (Elt Ideal) S2112x512 .f32)) (Y : S2112x512.Idx → EReal) (hY : View.canon L = Y)
    (o n : ℕ) (inb : ∀ a : Fin 2, (![o, 0] : Fin 2 → ℕ) a + (![n, 512] : Fin 2 → ℕ) a ≤ S2112x512.size a) (k : Fin n) (r : Fin 512) (hk : o + k.val < 2112) :
    arg13.view.readCov L (Rect.unit (s := S2112x512) ![o, 0] ![n, 512] inb).toLoadRect (ix2 k r) = Y (ix2 ⟨o + k.val, hk⟩ r) := by
  rw [View.readCov_eq_canon', hY]
  refine congrArg Y ?_
  funext a; apply Fin.ext
  match a with
  | ⟨0, _⟩ => show o + 1 * k.val = o + k.val; omega
  | ⟨1, _⟩ => show 0 + 1 * r.val = r.val; omega

/-- A row of gains, as loaded. -/
theorem gain_eq {n : ℕ} (arg : Memref sig .tc .vmem ⟨2, ![1, n]⟩ .bf16) (harg : arg.IsWhole) (x : Vec Ideal ⟨2, ![1, n]⟩ .bf16) (inb : ∀ a : Fin 2, (![0, 0] : Fin 2 → ℕ) a + (![1, n] : Fin 2 → ℕ) a ≤ (![1, n] : Fin 2 → ℕ) a) :
    View.readAt (Elt Ideal) arg.view (Rect.unit (s := ⟨2, ![1, n]⟩) ![0, 0] ![1, n] inb).toLoadRect (harg.unread x) = x := by
  funext y
  refine (harg.readAt_unread x _ _).trans (congrArg x ?_)
  exact Rect.emb_unit_full (s := ⟨2, ![1, n]⟩) inb y

/-- The query block, from the accumulator. -/
theorem q_at (arg13 : Memref sig .tc .vmem S2112x512 .f32) (L : List (View.Piece (Elt Ideal) S2112x512 .f32)) (Y : S2112x512.Idx → EReal) (hY : View.canon L = Y)
    (arg6 : Memref sig .tc .vmem S1x1536 .bf16) (harg6 : arg6.IsWhole) (x4 : Vec Ideal S1x1536 .bf16) :
    k0_pay6 (F := Ideal) (arg13.view.readCov L (Rect.unit (s := S2112x512) ![0, 0] S1536x512.size inb_S2112x512_S1536x512_0_0).toLoadRect)
      (View.readAt (Elt Ideal) arg6.view (Rect.unit (s := S1x1536) ![0, 0] S1x1536.size inb_S1x1536_S1x1536_0_0).toLoadRect (harg6.unread x4)) = qB Y x4 := by
  rw [show View.readAt (Elt Ideal) arg6.view (Rect.unit (s := S1x1536) ![0, 0] S1x1536.size inb_S1x1536_S1x1536_0_0).toLoadRect (harg6.unread x4) = x4 from gain_eq arg6 harg6 x4 inb_S1x1536_S1x1536_0_0]
  funext j
  refine (pay6_at (fun r n => Y (ix2 n r)) _ x4 j fun n r => ?_)
  refine (rows_at arg13 L Y hY 0 1536 inb_S2112x512_S1536x512_0_0 n r (by omega)).trans ?_
  exact congrArg (fun z => Y (ix2 z r)) (Fin.ext (Nat.zero_add _))
/-- The key-value block, from the accumulator. -/
theorem kv_at (arg13 : Memref sig .tc .vmem S2112x512 .f32) (L : List (View.Piece (Elt Ideal) S2112x512 .f32)) (Y : S2112x512.Idx → EReal) (hY : View.canon L = Y)
    (arg7 : Memref sig .tc .vmem S1x512 .bf16) (harg7 : arg7.IsWhole) (x5 : Vec Ideal S1x512 .bf16) :
    k0_pay7 (F := Ideal) (arg13.view.readCov L (Rect.unit (s := S2112x512) ![1536, 0] S512x512.size inb_S2112x512_S512x512_1536_0).toLoadRect)
      (View.readAt (Elt Ideal) arg7.view (Rect.unit (s := S1x512) ![0, 0] S1x512.size inb_S1x512_S1x512_0_0).toLoadRect (harg7.unread x5)) = kvB Y x5 := by
  rw [show View.readAt (Elt Ideal) arg7.view (Rect.unit (s := S1x512) ![0, 0] S1x512.size inb_S1x512_S1x512_0_0).toLoadRect (harg7.unread x5) = x5 from gain_eq arg7 harg7 x5 inb_S1x512_S1x512_0_0]
  funext j
  refine (pay7_at (fun r n => Y (ix2 n r)) _ x5 j fun n r => ?_)
  exact rows_at arg13 L Y hY 1536 512 inb_S2112x512_S512x512_1536_0 n r (by omega)
/-- The rotated block, from the accumulator. -/
theorem pe_at (i : grid0.Coords) (arg13 : Memref sig .tc .vmem S2112x512 .f32) (L : List (View.Piece (Elt Ideal) S2112x512 .f32)) (Y : S2112x512.Idx → EReal) (hY : View.canon L = Y)
    (arg3 : Memref sig .tc .smem S1 .i32) (harg3 : arg3.IsWhole) (x1 : Vec Ideal S1 .i32) :
    k0_pay5 (F := Ideal) (k0_pay8 (arg13.view.readCov L (Rect.unit (s := S2112x512) ![2048, 0] S64x512.size inb_S2112x512_S64x512_2048_0).toLoadRect)) (iota .tc S512x64 32 [1] iota_S512x64_d1_w32)
      (k0_pay10 (BitVec.ofNat 32 (i 0).val) (View.readAt (Elt Ideal) arg3.view (Rect.unit (s := S1) ![0] S1.size inb_S1_S1_0).toLoadRect (harg3.unread x1) (Shape.Idx.first (lt_of_lt_of_eq Nat.one_pos numel1_S1.symm))))
      (k0_pay11 (BitVec.ofNat 32 (i 0).val) (View.readAt (Elt Ideal) arg3.view (Rect.unit (s := S1) ![0] S1.size inb_S1_S1_0).toLoadRect (harg3.unread x1) (Shape.Idx.first (lt_of_lt_of_eq Nat.one_pos numel1_S1.symm)))) 2#32 = peB i x1 Y := by
  have hs : View.readAt (Elt Ideal) arg3.view (Rect.unit (s := S1) ![0] S1.size inb_S1_S1_0).toLoadRect (harg3.unread x1) (Shape.Idx.first (lt_of_lt_of_eq Nat.one_pos numel1_S1.symm)) = x1 (ix1 0) := by
    refine (harg3.readAt_unread x1 _ _).trans (congrArg x1 ?_)
    funext a; apply Fin.ext
    match a with | ⟨0, _⟩ => rfl
  rw [hs]
  funext j
  refine (pay5_at (fun r n => Y (ix2 n r)) _ (i 0).val (x1 (ix1 0)) j fun n r => ?_)
  exact rows_at arg13 L Y hY 2048 64 inb_S2112x512_S64x512_2048_0 n r (by omega)

/-- Case A. -/
theorem bodyA_val (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : cond0_0 i) (hc1 : ¬cond0_1 i) (hc2 : ¬cond0_2 i)
    (x0 : Vec Ideal S17x128 .f32) (x1 : Vec Ideal S1 .i32) (x2 : Vec Ideal S512x2048 .bf16) (x3 : Vec Ideal S2112x2048 .fp8e4m3) (x4 : Vec Ideal S1x1536 .bf16) (x5 : Vec Ideal S1x512 .bf16) (xs3 : Vec Ideal S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs3
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (codesB x2) ∗ owns (c : Thread nD τ) arg12 fullShare (scN i x2 xs3) ∗ owns (c : Thread nD τ) arg13 fullShare (partB i x0 x2 x3) ∗ (∃ d, owns (c : Thread nD τ) arg14 fullShare d) ∗ (∃ d, owns (c : Thread nD τ) arg15 fullShare d) ∗ owns (c : Thread nD τ) arg16 fullShare (scN i x2 xs3)) -∗ K ⟨⟩))
    ⊢ wp frame (wpE (defs₀ (F := Ideal)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have h11 : (∀ y, ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.1, y ∈ p.1.set) ∧ View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.1 = (codesB x2) := by
    rw [valA_L9]; exact codesL_at arg4 harg4 x2
  have h12 : (∀ y, ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.1, y ∈ p.1.set) ∧ View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.1 = (scN i x2 xs3) := by
    rw [valA_L10, sc_eq]; exact canon_whole (e := .f32) off2 inb_S512x128_S512x128_0_0 _
  have h13 : (∀ y, ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.1, y ∈ p.1.set) ∧ View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.1 = (partB i x0 x2 x3) := by
    rw [valA_LS0]; rw [wwR_eq, xwR_eq]; exact accA_at i x0 x2 x3
  have h14 : (∀ y, ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.2.1, y ∈ p.1.set) ∧ View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.2.1 = (xwB x2) := by
    rw [valA_LT1]; exact xwL_at arg4 harg4 x2
  have h15 : (∀ y, ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.2.2.1, y ∈ p.1.set) ∧ View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.2.2.1 = (wwB i x0 x3) := by
    rw [valA_LT2]; exact wwL_at i arg2 harg2 arg5 harg5 x0 x3
  have h16 : (∀ y, ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.2.2.2.1, y ∈ p.1.set) ∧ View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.2.2.2.1 = (scN i x2 xs3) := by
    rw [valA_LS3, sc_eq, shapeCast_self]; exact canon_whole (e := .f32) off2 inb_S512x128_S512x128_0_0 _
  iintro ⟨H2, H3, H4, H5, H6, H7, ⟨%d8, H8⟩, ⟨%d9, H9⟩, ⟨%d10, H10⟩, H11, H12, H13, H14, H15, H16, Hk⟩
  iapply ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs3).2.2.2.2.2.2.2.2.2 d8 d9 d10 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · iexists _; iexact H10
  isplitl [H11]
  · iapply (own_of c arg11 _ _ h11); iexact H11
  isplitl [H12]
  · iapply (own_of c arg12 _ _ h12); iexact H12
  isplitl [H13]
  · iapply (own_of c arg13 _ _ h13); iexact H13
  isplitl [H14]
  · iexists _; iapply (own_of c arg14 _ _ h14); iexact H14
  isplitl [H15]
  · iexists _; iapply (own_of c arg15 _ _ h15); iexact H15
  iapply (own_of c arg16 _ _ h16); iexact H16

/-- Case B. -/
theorem bodyB_val (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : ¬cond0_2 i)
    (x0 : Vec Ideal S17x128 .f32) (x1 : Vec Ideal S1 .i32) (x2 : Vec Ideal S512x2048 .bf16) (x3 : Vec Ideal S2112x2048 .fp8e4m3) (x4 : Vec Ideal S1x1536 .bf16) (x5 : Vec Ideal S1x512 .bf16) (xs0 : Vec Ideal S2112x512 .f32) (xs3 : Vec Ideal S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ owns (c : Thread nD τ) arg16 fullShare xs3
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (codesB x2) ∗ owns (c : Thread nD τ) arg12 fullShare (scN i x2 xs3) ∗ owns (c : Thread nD τ) arg13 fullShare (accN i x0 x2 x3 xs0) ∗ (∃ d, owns (c : Thread nD τ) arg14 fullShare d) ∗ (∃ d, owns (c : Thread nD τ) arg15 fullShare d) ∗ owns (c : Thread nD τ) arg16 fullShare (scN i x2 xs3)) -∗ K ⟨⟩))
    ⊢ wp frame (wpE (defs₀ (F := Ideal)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have h11 : (∀ y, ∃ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.1, y ∈ p.1.set) ∧ View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.1 = (codesB x2) := by
    rw [valB_L9]; exact codesL_at arg4 harg4 x2
  have h12 : (∀ y, ∃ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.1, y ∈ p.1.set) ∧ View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.1 = (scN i x2 xs3) := by
    rw [valB_L10, sc_eq]; exact canon_whole (e := .f32) off2 inb_S512x128_S512x128_0_0 _
  have h13 : (∀ y, ∃ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.1, y ∈ p.1.set) ∧ View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.1 = (accN i x0 x2 x3 xs0) := by
    rw [valB_LS0]; rw [wwR_eq, xwR_eq, accR_eq]; exact accB_at i x0 x2 x3 xs0
  have h14 : (∀ y, ∃ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.1, y ∈ p.1.set) ∧ View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.1 = (xwB x2) := by
    rw [valB_LT1]; exact xwL_at arg4 harg4 x2
  have h15 : (∀ y, ∃ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.1, y ∈ p.1.set) ∧ View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.1 = (wwB i x0 x3) := by
    rw [valB_LT2]; exact wwL_at i arg2 harg2 arg5 harg5 x0 x3
  have h16 : (∀ y, ∃ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.2.1, y ∈ p.1.set) ∧ View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.2.1 = (scN i x2 xs3) := by
    rw [valB_LS3, sc_eq, shapeCast_self]; exact canon_whole (e := .f32) off2 inb_S512x128_S512x128_0_0 _
  iintro ⟨H2, H3, H4, H5, H6, H7, ⟨%d8, H8⟩, ⟨%d9, H9⟩, ⟨%d10, H10⟩, H11, H12, H13, H14, H15, H16, Hk⟩
  iapply ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.2.2 d8 d9 d10 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · iexists _; iexact H10
  isplitl [H11]
  · iapply (own_of c arg11 _ _ h11); iexact H11
  isplitl [H12]
  · iapply (own_of c arg12 _ _ h12); iexact H12
  isplitl [H13]
  · iapply (own_of c arg13 _ _ h13); iexact H13
  isplitl [H14]
  · iexists _; iapply (own_of c arg14 _ _ h14); iexact H14
  isplitl [H15]
  · iexists _; iapply (own_of c arg15 _ _ h15); iexact H15
  iapply (own_of c arg16 _ _ h16); iexact H16

/-- Case C. -/
theorem bodyC_val (c : Dev nD) (i : grid0.Coords) (arg2 : Memref sig .tc .smem S17x128 .f32) (harg2 : arg2.IsWhole) (arg3 : Memref sig .tc .smem S1 .i32) (harg3 : arg3.IsWhole) (arg4 : Memref sig .tc .vmem S512x2048 .bf16) (harg4 : arg4.IsWhole) (arg5 : Memref sig .tc .vmem S2112x2048 .fp8e4m3) (harg5 : arg5.IsWhole) (arg6 : Memref sig .tc .vmem S1x1536 .bf16) (harg6 : arg6.IsWhole) (arg7 : Memref sig .tc .vmem S1x512 .bf16) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x64 .bf16) (harg10 : arg10.IsWhole) (arg11 : Memref sig .tc .vmem S512x2048 .fp8e4m3) (harg11 : arg11.IsWhole) (arg12 : Memref sig .tc .vmem S512x128 .f32) (harg12 : arg12.IsWhole) (arg13 : Memref sig .tc .vmem S2112x512 .f32) (harg13 : arg13.IsWhole) (arg14 : Memref sig .tc .vmem S512x2048 .bf16) (harg14 : arg14.IsWhole) (arg15 : Memref sig .tc .vmem S2112x2048 .bf16) (harg15 : arg15.IsWhole) (arg16 : Memref sig .tc .vmem S512x128 .f32) (harg16 : arg16.IsWhole) (hc0 : ¬cond0_0 i) (hc1 : cond0_1 i) (hc2 : cond0_2 i)
    (x0 : Vec Ideal S17x128 .f32) (x1 : Vec Ideal S1 .i32) (x2 : Vec Ideal S512x2048 .bf16) (x3 : Vec Ideal S2112x2048 .fp8e4m3) (x4 : Vec Ideal S1x1536 .bf16) (x5 : Vec Ideal S1x512 .bf16) (xs0 : Vec Ideal S2112x512 .f32) (xs3 : Vec Ideal S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ owns (c : Thread nD τ) arg16 fullShare xs3
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (qB (accN i x0 x2 x3 xs0) x4) ∗ owns (c : Thread nD τ) arg9 fullShare (kvB (accN i x0 x2 x3 xs0) x5) ∗ owns (c : Thread nD τ) arg10 fullShare (peB i x1 (accN i x0 x2 x3 xs0)) ∗ owns (c : Thread nD τ) arg11 fullShare (codesB x2) ∗ owns (c : Thread nD τ) arg12 fullShare (scN i x2 xs3) ∗ owns (c : Thread nD τ) arg13 fullShare (accN i x0 x2 x3 xs0) ∗ (∃ d, owns (c : Thread nD τ) arg14 fullShare d) ∗ (∃ d, owns (c : Thread nD τ) arg15 fullShare d) ∗ owns (c : Thread nD τ) arg16 fullShare (scN i x2 xs3)) -∗ K ⟨⟩))
    ⊢ wp frame (wpE (defs₀ (F := Ideal)) Variants.none c none) E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have h11 : (∀ y, ∃ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.1, y ∈ p.1.set) ∧ View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.1 = (codesB x2) := by
    rw [valC_L9]; exact codesL_at arg4 harg4 x2
  have h12 : (∀ y, ∃ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.1, y ∈ p.1.set) ∧ View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.1 = (scN i x2 xs3) := by
    rw [valC_L10, sc_eq]; exact canon_whole (e := .f32) off2 inb_S512x128_S512x128_0_0 _
  have h13 : (∀ y, ∃ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.1, y ∈ p.1.set) ∧ View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.1 = (accN i x0 x2 x3 xs0) := by
    rw [valC_LS0]; rw [wwR_eq, xwR_eq, accR_eq]; exact accB_at i x0 x2 x3 xs0
  have h14 : (∀ y, ∃ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.1, y ∈ p.1.set) ∧ View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.1 = (xwB x2) := by
    rw [valC_LT1]; exact xwL_at arg4 harg4 x2
  have h15 : (∀ y, ∃ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.1, y ∈ p.1.set) ∧ View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.1 = (wwB i x0 x3) := by
    rw [valC_LT2]; exact wwL_at i arg2 harg2 arg5 harg5 x0 x3
  have h16 : (∀ y, ∃ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.2.1, y ∈ p.1.set) ∧ View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.2.1 = (scN i x2 xs3) := by
    rw [valC_LS3, sc_eq, shapeCast_self]; exact canon_whole (e := .f32) off2 inb_S512x128_S512x128_0_0 _
  have h8 : (∀ y, ∃ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).1, y ∈ p.1.set) ∧ View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).1 = (qB (accN i x0 x2 x3 xs0) x4) := by
    rw [valC_L6]; rw [wwR_eq, xwR_eq, accR_eq]; rw [q_at arg13 (accB (F := Ideal) (wwB i x0 x3) (xwB x2) xs0) (accN i x0 x2 x3 xs0) (accB_at i x0 x2 x3 xs0).2 arg6 harg6 x4]; exact canon_whole (e := .bf16) off2 _ _
  have h9 : (∀ y, ∃ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.1, y ∈ p.1.set) ∧ View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.1 = (kvB (accN i x0 x2 x3 xs0) x5) := by
    rw [valC_L7]; rw [wwR_eq, xwR_eq, accR_eq]; rw [kv_at arg13 (accB (F := Ideal) (wwB i x0 x3) (xwB x2) xs0) (accN i x0 x2 x3 xs0) (accB_at i x0 x2 x3 xs0).2 arg7 harg7 x5]; exact canon_whole (e := .bf16) off2 _ _
  have h10 : (∀ y, ∃ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.1, y ∈ p.1.set) ∧ View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.1 = (peB i x1 (accN i x0 x2 x3 xs0)) := by
    rw [valC_L8]; rw [wwR_eq, xwR_eq, accR_eq]; rw [pe_at i arg13 (accB (F := Ideal) (wwB i x0 x3) (xwB x2) xs0) (accN i x0 x2 x3 xs0) (accB_at i x0 x2 x3 xs0).2 arg3 harg3 x1]; exact canon_whole (e := .bf16) off2 _ _
  iintro ⟨H2, H3, H4, H5, H6, H7, H8, H9, H10, H11, H12, H13, H14, H15, H16, Hk⟩
  iapply ((kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 xs0 xs3).2.2.2.2.2.2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (own_of c arg8 _ _ h8); iexact H8
  isplitl [H9]
  · iapply (own_of c arg9 _ _ h9); iexact H9
  isplitl [H10]
  · iapply (own_of c arg10 _ _ h10); iexact H10
  isplitl [H11]
  · iapply (own_of c arg11 _ _ h11); iexact H11
  isplitl [H12]
  · iapply (own_of c arg12 _ _ h12); iexact H12
  isplitl [H13]
  · iapply (own_of c arg13 _ _ h13); iexact H13
  isplitl [H14]
  · iexists _; iapply (own_of c arg14 _ _ h14); iexact H14
  isplitl [H15]
  · iexists _; iapply (own_of c arg15 _ _ h15); iexact H15
  iapply (own_of c arg16 _ _ h16); iexact H16

end Cert.KernelIdeal.Val
end
-- ==== Proof.IRel.lean ====
module
public import proofs.«01_k».proof.Proof.IBody
public import Idealize.ShloMosaic.Lib.Pipeline.DatRel
@[expose] public section
set_option maxRecDepth 16384
noncomputable section

/-! The blocks a point reads and leaves, in the coordinates of the arrays. -/

namespace Cert.KernelIdeal.Val
open Cert.KernelIdeal Cert.KernelIdeal.Gen
open Idealize.ShloMosaic Idealize.ShloMosaic.TcCoe Idealize.SL.Sem

variable (m : (ℓ : Loc nD τ sig) → Buf (Elt Ideal) ℓ)

/-- Row `r` of token block `b`. -/
def rowOf (b : ℕ) (r : Fin 512) : Fin 8192 := ⟨(512 * b + r.val) % 8192, Nat.mod_lt _ (by norm_num)⟩
/-- A row inside the array, by its token block. -/
theorem rowOf_eq (t : Fin cfg0.N) (r : Fin 512) (h : 512 * (t.val / 8) + r.val < 8192) : (⟨512 * (t.val / 8) + r.val, h⟩ : Fin 8192) = rowOf (t.val / 8) r :=
  Fin.ext (Nat.mod_eq_of_lt h).symm

/-- The blocks read, as plain functions. -/
def B0 (c : Dev nD) (t : Fin cfg0.N) : S17x128.Idx → EReal := iblk (F := Ideal) m c 0 t
/-- The block of the first position. -/
def B1 (c : Dev nD) (t : Fin cfg0.N) : S1.Idx → BitVec 32 := iblk (F := Ideal) m c 1 t
/-- The block of the activations. -/
def B2 (c : Dev nD) (t : Fin cfg0.N) : S512x2048.Idx → EReal := iblk (F := Ideal) m c 2 t
/-- The block of the weights. -/
def B3 (c : Dev nD) (t : Fin cfg0.N) : S2112x2048.Idx → EReal := iblk (F := Ideal) m c 3 t
/-- The block of the query gains. -/
def B4 (c : Dev nD) (t : Fin cfg0.N) : S1x1536.Idx → EReal := iblk (F := Ideal) m c 4 t
/-- The block of the key-value gains. -/
def B5 (c : Dev nD) (t : Fin cfg0.N) : S1x512.Idx → EReal := iblk (F := Ideal) m c 5 t
/-- The block of the weight scales, element by element. -/
theorem B0_at (c : Dev nD) (t : Fin cfg0.N) (n : Fin 17) (g : Fin 128) : B0 m c t (ix2 n g) = WS m c n g := iblk0_at m c t n g
/-- The block of the first position, element by element. -/
theorem B1_at (c : Dev nD) (t : Fin cfg0.N) : B1 m c t (ix1 0) = ST m c := iblk1_at m c t
/-- The block of the activations, element by element. -/
theorem B2_at (c : Dev nD) (t : Fin cfg0.N) (r : Fin 512) (d : Fin 2048) : B2 m c t (ix2 r d) = X m c (rowOf (t.val / 8) r) ⟨2048 * (t.val % 8) + d.val, by omega⟩ :=
  (iblk2_at m c t r d).trans (by rw [rowOf_eq])
/-- The block of the weights, element by element. -/
theorem B3_at (c : Dev nD) (t : Fin cfg0.N) (n : Fin 2112) (d : Fin 2048) : B3 m c t (ix2 n d) = W m c n ⟨2048 * (t.val % 8) + d.val, by omega⟩ := iblk3_at m c t n d
/-- The block of the query gains, element by element. -/
theorem B4_at (c : Dev nD) (t : Fin cfg0.N) (n : Fin 1536) : B4 m c t (ix2 0 n) = GQ m c n := iblk4_at m c t n
/-- The block of the key-value gains, element by element. -/
theorem B5_at (c : Dev nD) (t : Fin cfg0.N) (n : Fin 512) : B5 m c t (ix2 0 n) = GK m c n := iblk5_at m c t n
/-- The codes of a tile at an element. -/
theorem codesB_at (x : S512x2048.Idx → EReal) (r : Fin 512) (d : Fin 2048) : codesB x (ix2 r d) = Spec.codeOf (grpB x r ⟨d.val / 128, by omega⟩) ⟨d.val % 128, by omega⟩ := rfl
/-- The dequantised activations of a tile at an element. -/
theorem xwB_at (x : S512x2048.Idx → EReal) (r : Fin 512) (d : Fin 2048) : xwB x (ix2 r d) = codesB x (ix2 r d) * Spec.scOf (grpB x r ⟨d.val / 128, by omega⟩) := rfl
/-- The dequantised weights of a tile at an element. -/
theorem wwB_at (i : grid0.Coords) (x0 : S17x128.Idx → EReal) (x3 : S2112x2048.Idx → EReal) (n : Fin 2112) (d : Fin 2048) :
    wwB i x0 x3 (ix2 n d) = x3 (ix2 n d) * x0 (ix2 ⟨n.val / 128, by omega⟩ ⟨16 * (i 1).val + d.val / 128, by have : (i 1).val < 8 := (i 1).isLt; omega⟩) := rfl

/-- A group of a block is a group of a row. -/
theorem grp_at (c : Dev nD) (t : Fin cfg0.N) (r : Fin 512) (G : Fin 16) :
    grpB (B2 m c t) r G = Spec.row (X m c) (rowOf (t.val / 8) r) ⟨16 * (t.val % 8) + G.val, by omega⟩ := by
  funext l
  refine (B2_at m c t r ⟨128 * G.val + l.val, by omega⟩).trans ?_
  exact congrArg (X m c _) (Fin.ext (by show 2048 * (t.val % 8) + (128 * G.val + l.val) = 128 * (16 * (t.val % 8) + G.val) + l.val; omega))

/-- The codes of a block. -/
theorem codes_at (c : Dev nD) (t : Fin cfg0.N) (r : Fin 512) (d : Fin 2048) :
    codesB (B2 m c t) (ix2 r d) = Spec.code (X m c) (rowOf (t.val / 8) r) ⟨2048 * (t.val % 8) + d.val, by omega⟩ := by
  rw [codesB_at, grp_at]
  unfold Spec.code
  refine congrArg₂ (fun G l => Spec.codeOf (Spec.row (X m c) (rowOf (t.val / 8) r) G) l) (Fin.ext ?_) (Fin.ext ?_)
  · show 16 * (t.val % 8) + d.val / 128 = (2048 * (t.val % 8) + d.val) / 128; omega
  · show d.val % 128 = (2048 * (t.val % 8) + d.val) % 128; omega
/-- The dequantised activations of a block. -/
theorem xw_at (c : Dev nD) (t : Fin cfg0.N) (r : Fin 512) (d : Fin 2048) :
    xwB (B2 m c t) (ix2 r d) = Spec.xw (X m c) (rowOf (t.val / 8) r) ⟨2048 * (t.val % 8) + d.val, by omega⟩ := by
  rw [xwB_at, codes_at, grp_at]
  unfold Spec.xw
  refine congrArg (fun G => Spec.code _ _ _ * Spec.scOf (Spec.row (X m c) (rowOf (t.val / 8) r) G)) (Fin.ext ?_)
  show 16 * (t.val % 8) + d.val / 128 = (2048 * (t.val % 8) + d.val) / 128; omega
/-- The dequantised weights of a block. -/
theorem ww_at (c : Dev nD) (t : Fin cfg0.N) (n : Fin 2112) (d : Fin 2048) :
    wwB (grid0.coords t) (B0 m c t) (B3 m c t) (ix2 n d) = Spec.ww (W m c) (WS m c) n ⟨2048 * (t.val % 8) + d.val, by omega⟩ := by
  rw [wwB_at, B3_at, B0_at]
  unfold Spec.ww
  refine congrArg (fun G => W m c _ _ * WS m c _ G) (Fin.ext ?_)
  show 16 * (grid0.coords t 1).val + d.val / 128 = (2048 * (t.val % 8) + d.val) / 128
  rw [coord1]; omega

/-- A term of the projection, past the end zero. -/
def term (c : Dev nD) (n : Fin 2112) (r : Fin 8192) (d : ℕ) : EReal :=
  if h : d < 16384 then Spec.ww (W m c) (WS m c) n ⟨d, h⟩ * Spec.xw (X m c) r ⟨d, h⟩ else 0
/-- The accumulator of token block `b` after `K` chunks. -/
def accG (c : Dev nD) (b K : ℕ) (j : S2112x512.Idx) : EReal := ∑ d ∈ Finset.range (2048 * K), term m c (j 0) (rowOf b (j 1)) d

/-- The product of a point is the sum over its 2048 columns. -/
theorem part_at (c : Dev nD) (t : Fin cfg0.N) (j : S2112x512.Idx) :
    partB (grid0.coords t) (B0 m c t) (B2 m c t) (B3 m c t) j
      = ∑ k ∈ Finset.range 2048, term m c (j 0) (rowOf (t.val / 8) (j 1)) (2048 * (t.val % 8) + k) := by
  rw [Finset.sum_range]
  refine Finset.sum_congr rfl fun k _ => ?_
  rw [ww_at m c t (j 0) k, xw_at m c t (j 1) k]
  unfold term
  rw [dif_pos (show 2048 * (t.val % 8) + k.val < 16384 by omega)]

/-- After the first point of a token block the accumulator holds one chunk. -/
theorem acc_first (c : Dev nD) (t : Fin cfg0.N) (h : t.val % 8 = 0) :
    partB (grid0.coords t) (B0 m c t) (B2 m c t) (B3 m c t) = accG m c (t.val / 8) 1 := by
  funext j
  rw [part_at, h]
  refine Finset.sum_congr rfl fun k _ => ?_
  rw [Nat.mul_zero, Nat.zero_add]
/-- Each later point adds a chunk. -/
theorem acc_next (c : Dev nD) (t : Fin cfg0.N) :
    accN (grid0.coords t) (B0 m c t) (B2 m c t) (B3 m c t) (accG m c (t.val / 8) (t.val % 8)) = accG m c (t.val / 8) (t.val % 8 + 1) := by
  funext j
  show accG m c _ _ j + partB _ _ _ _ j = _
  rw [part_at]
  show _ = ∑ d ∈ Finset.range (2048 * (t.val % 8 + 1)), _
  rw [Nat.mul_add, Nat.mul_one, Finset.sum_range_add]
  rfl
/-- After all the chunks it is the projection. -/
theorem acc_last (c : Dev nD) (b : ℕ) (n : Fin 2112) (r : Fin 512) : accG m c b 8 (ix2 n r) = Spec.y (X m c) (W m c) (WS m c) n (rowOf b r) := by
  show ∑ d ∈ Finset.range 16384, _ = _
  rw [Finset.sum_range]
  exact Finset.sum_congr rfl fun k _ => dif_pos k.isLt

/-- The lanes of the scales filled by `K` chunks. -/
def scOk (c : Dev nD) (b K : ℕ) (s : S512x128.Idx → EReal) : Prop :=
  ∀ j : S512x128.Idx, (j 1).val < 16 * K → s j = Spec.scOf (Spec.row (X m c) (rowOf b (j 0)) (j 1))
/-- A point fills the lanes of its own 16 groups. -/
theorem sc_next (c : Dev nD) (t : Fin cfg0.N) (s : S512x128.Idx → EReal) (h : scOk m c (t.val / 8) (t.val % 8) s) :
    scOk m c (t.val / 8) (t.val % 8 + 1) (scN (grid0.coords t) (B2 m c t) s) := by
  intro j hj
  unfold scN
  have e := coord1 t
  split
  · next h' =>
    refine (congrArg Spec.scOf (grp_at m c t (j 0) ⟨(j 1).val - 16 * (grid0.coords t 1).val, by omega⟩)).trans ?_
    refine congrArg (fun G => Spec.scOf (Spec.row (X m c) (rowOf (t.val / 8) (j 0)) G)) (Fin.ext ?_)
    show 16 * (t.val % 8) + ((j 1).val - 16 * (grid0.coords t 1).val) = (j 1).val
    omega
  · next h' =>
    refine h j ?_
    omega
/-- Before the first chunk nothing is asked of the scales. -/
theorem sc_zero (c : Dev nD) (b : ℕ) (s : S512x128.Idx → EReal) : scOk m c b 0 s := fun j hj => absurd hj (by omega)

/-- What is known of the held accumulator and scales once `s` points are done. -/
def Inv (c : Dev nD) (s : ℕ) (acc : S2112x512.Idx → EReal) (sc : S512x128.Idx → EReal) : Prop :=
  s % 8 ≠ 0 → acc = accG m c (s / 8) (s % 8) ∧ scOk m c (s / 8) (s % 8) sc
/-- What is known holds before the first point. -/
theorem inv_zero (c : Dev nD) (acc : S2112x512.Idx → EReal) (sc : S512x128.Idx → EReal) : Inv m c 0 acc sc := fun h => absurd rfl h
/-- It holds after a point that leaves the accumulator and the scales of one chunk more. -/
theorem inv_step (c : Dev nD) (t : Fin cfg0.N) (acc : S2112x512.Idx → EReal) (sc : S512x128.Idx → EReal)
    (h : acc = accG m c (t.val / 8) (t.val % 8 + 1)) (h' : scOk m c (t.val / 8) (t.val % 8 + 1) sc) : Inv m c (t.val + 1) acc sc := by
  intro hs
  have e1 : (t.val + 1) / 8 = t.val / 8 := by omega
  have e2 : (t.val + 1) % 8 = t.val % 8 + 1 := by omega
  rw [e1, e2]; exact ⟨h, h'⟩

/-- The blocks left, by token block. -/
def qG (c : Dev nD) (b : ℕ) (j : S512x1536.Idx) : EReal := Spec.q (fun n => Spec.y (X m c) (W m c) (WS m c) n (rowOf b (j 0))) (GQ m c) (j 1)
/-- The key-value block. -/
def kvG (c : Dev nD) (b : ℕ) (j : S512x512.Idx) : EReal := Spec.kv (fun n => Spec.y (X m c) (W m c) (WS m c) n (rowOf b (j 0))) (GK m c) (j 1)
/-- The rotated block. -/
def peG (c : Dev nD) (b : ℕ) (j : S512x64.Idx) : EReal :=
  Spec.pe (fun n => Spec.y (X m c) (W m c) (WS m c) n (rowOf b (j 0))) (IntOp.addi (ST m c) (BitVec.ofNat 32 (512 * b + (j 0).val))) (j 1)
/-- The block of codes. -/
def codeG (c : Dev nD) (t : Fin cfg0.N) (j : S512x2048.Idx) : EReal := Spec.code (X m c) (rowOf (t.val / 8) (j 0)) ⟨2048 * (t.val % 8) + (j 1).val, by have : (j 1).val < 2048 := (j 1).isLt; omega⟩
/-- The block of scales. -/
def scG (c : Dev nD) (b : ℕ) (j : S512x128.Idx) : EReal := Spec.scOf (Spec.row (X m c) (rowOf b (j 0)) (j 1))

/-- A point leaves the block of codes. -/
theorem codesB_eq (c : Dev nD) (t : Fin cfg0.N) : codesB (B2 m c t) = codeG m c t := by
  funext j; idx_vars j; exact codes_at m c t j0 j1
/-- The last point of a token block leaves the query block. -/
theorem qB_eq (c : Dev nD) (t : Fin cfg0.N) : qB (accG m c (t.val / 8) 8) (B4 m c t) = qG m c (t.val / 8) := by
  funext j
  unfold qB qG
  exact congrArg₂ (fun a b => Spec.q a b (j 1)) (funext fun n => acc_last m c _ n (j 0)) (funext fun o => B4_at m c t o)
/-- It leaves the key-value block. -/
theorem kvB_eq (c : Dev nD) (t : Fin cfg0.N) : kvB (accG m c (t.val / 8) 8) (B5 m c t) = kvG m c (t.val / 8) := by
  funext j
  unfold kvB kvG
  exact congrArg₂ (fun a b => Spec.kv a b (j 1)) (funext fun n => acc_last m c _ n (j 0)) (funext fun o => B5_at m c t o)
/-- It leaves the rotated block. -/
theorem peB_eq (c : Dev nD) (t : Fin cfg0.N) : peB (grid0.coords t) (B1 m c t) (accG m c (t.val / 8) 8) = peG m c (t.val / 8) := by
  funext j
  unfold peB peG
  rw [B1_at, coord0]
  exact congrArg (fun a => Spec.pe a _ (j 1)) (funext fun n => acc_last m c _ n (j 0))
/-- Its scales are complete. -/
theorem scN_eq (c : Dev nD) (b : ℕ) (s : S512x128.Idx → EReal) (h : scOk m c b 8 s) : s = scG m c b :=
  funext fun j => h j (j 1).isLt

end Cert.KernelIdeal.Val
end
-- ==== Proof.IRun.lean ====
module
public import proofs.«01_k».proof.Proof.IRel
@[expose] public section
set_option maxRecDepth 16384
noncomputable section

/-! The run of the idealized kernel, with what it leaves in each output named. -/

namespace Cert.KernelIdeal.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-- The output windows. -/
def outs0 : Fin 11 → Bool := fun w => w.val == 6 || w.val == 7 || w.val == 8 || w.val == 9 || w.val == 10

/-- What a point leaves in the output windows: the codes at every point, the rest at a token block's last. -/
def Rl (c : Dev nD) (w : Fin cfg0.W) (t : Fin cfg0.N) : ((cfg0.win w).block.Idx → Elt Ideal (cfg0.win w).elt) → Prop := match w with
  | ⟨6, _⟩ => fun Y => t.val % 8 = 7 → Y = qG m c (t.val / 8)
  | ⟨7, _⟩ => fun Y => t.val % 8 = 7 → Y = kvG m c (t.val / 8)
  | ⟨8, _⟩ => fun Y => t.val % 8 = 7 → Y = peG m c (t.val / 8)
  | ⟨9, _⟩ => fun Y => Y = codeG m c t
  | ⟨10, _⟩ => fun Y => t.val % 8 = 7 → Y = scG m c (t.val / 8)
  | _ => fun _ => True

/-- What holds of the scratch buffers between points. -/
def PhiV (c : Dev nD) (s : ℕ) : sProp 𝕄 :=
  iprop(∃ acc, ∃ sc, ⌜Inv m c s acc sc⌝ ∗ owns (c : Thread nD τ) scM0_0 fullShare acc ∗ (∃ d, owns (c : Thread nD τ) scM0_1 fullShare d)
    ∗ (∃ d, owns (c : Thread nD τ) scM0_2 fullShare d) ∗ owns (c : Thread nD τ) scM0_3 fullShare sc ∗ ∃ r, prngReg c r)

/-- The proof data of the pipeline. -/
def datV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ s := PhiV m c s.val
  q _ := fullShare
  owed _ := 0

/-- The proof data's arrays are what the region finds. -/
theorem A_eqV (c : Dev nD) (w : Fin cfg0.W) : (datV m 0 c).A w = V m c (Pipeline.arrRef spec0 w) := by
  dsimp only [datV]

/-- The body leaves the block of the weight scales as it was. -/
theorem afterV_0 (c : Dev nD) (t : Fin cfg0.N) : (datV m 0 c).after 0 t = iblk m c 0 t := by dsimp only [datV]
/-- The body finds the block of the weight scales. -/
theorem beforeV_0 (c : Dev nD) (t : Fin cfg0.N) (d) : (datV m 0 c).before 0 t d = iblk m c 0 t :=
  before0_0_of m (datV m 0 c) (A_eqV m c 0) (afterV_0 m c) t d
/-- The body leaves the block of the first position as it was. -/
theorem afterV_1 (c : Dev nD) (t : Fin cfg0.N) : (datV m 0 c).after 1 t = iblk m c 1 t := by dsimp only [datV]
/-- The body finds the block of the first position. -/
theorem beforeV_1 (c : Dev nD) (t : Fin cfg0.N) (d) : (datV m 0 c).before 1 t d = iblk m c 1 t :=
  before0_1_of m (datV m 0 c) (A_eqV m c 1) (afterV_1 m c) t d
/-- The body leaves the block of the activations as it was. -/
theorem afterV_2 (c : Dev nD) (t : Fin cfg0.N) : (datV m 0 c).after 2 t = iblk m c 2 t := by dsimp only [datV]
/-- The body finds the block of the activations. -/
theorem beforeV_2 (c : Dev nD) (t : Fin cfg0.N) (d) : (datV m 0 c).before 2 t d = iblk m c 2 t :=
  before0_2_of m (datV m 0 c) (A_eqV m c 2) (afterV_2 m c) t d
/-- The body leaves the block of the weights as it was. -/
theorem afterV_3 (c : Dev nD) (t : Fin cfg0.N) : (datV m 0 c).after 3 t = iblk m c 3 t := by dsimp only [datV]
/-- The body finds the block of the weights. -/
theorem beforeV_3 (c : Dev nD) (t : Fin cfg0.N) (d) : (datV m 0 c).before 3 t d = iblk m c 3 t :=
  before0_3_of m (datV m 0 c) (A_eqV m c 3) (afterV_3 m c) t d
/-- The body leaves the block of the query gains as it was. -/
theorem afterV_4 (c : Dev nD) (t : Fin cfg0.N) : (datV m 0 c).after 4 t = iblk m c 4 t := by dsimp only [datV]
/-- The body finds the block of the query gains. -/
theorem beforeV_4 (c : Dev nD) (t : Fin cfg0.N) (d) : (datV m 0 c).before 4 t d = iblk m c 4 t :=
  before0_4_of m (datV m 0 c) (A_eqV m c 4) (afterV_4 m c) t d
/-- The body leaves the block of the key-value gains as it was. -/
theorem afterV_5 (c : Dev nD) (t : Fin cfg0.N) : (datV m 0 c).after 5 t = iblk m c 5 t := by dsimp only [datV]
/-- The body finds the block of the key-value gains. -/
theorem beforeV_5 (c : Dev nD) (t : Fin cfg0.N) (d) : (datV m 0 c).before 5 t d = iblk m c 5 t :=
  before0_5_of m (datV m 0 c) (A_eqV m c 5) (afterV_5 m c) t d
/-- What the body is called with, -/
def preV (c : Dev nD) (t : Fin cfg0.N) : sProp 𝕄 :=
  iprop((datV m 0 c).Φ t.castSucc
    ∗ (datV m 0 c).owesAt () t.castSucc
    ∗ (∃ d, owns (c : Thread nD τ) (ms0_0 t) fullShare ((datV m 0 c).before 0 t d))
    ∗ (∃ d, owns (c : Thread nD τ) (ms0_1 t) fullShare ((datV m 0 c).before 1 t d))
    ∗ (∃ d, owns (c : Thread nD τ) (ms0_2 t) fullShare ((datV m 0 c).before 2 t d))
    ∗ (∃ d, owns (c : Thread nD τ) (ms0_3 t) fullShare ((datV m 0 c).before 3 t d))
    ∗ (∃ d, owns (c : Thread nD τ) (ms0_4 t) fullShare ((datV m 0 c).before 4 t d))
    ∗ (∃ d, owns (c : Thread nD τ) (ms0_5 t) fullShare ((datV m 0 c).before 5 t d))
    ∗ (∃ Y, ⌜((datV m 0 c).toRRel outs0 (Rl m c)).Finds 6 t Y⌝ ∗ owns (c : Thread nD τ) (ms0_6 t) fullShare Y)
    ∗ (∃ Y, ⌜((datV m 0 c).toRRel outs0 (Rl m c)).Finds 7 t Y⌝ ∗ owns (c : Thread nD τ) (ms0_7 t) fullShare Y)
    ∗ (∃ Y, ⌜((datV m 0 c).toRRel outs0 (Rl m c)).Finds 8 t Y⌝ ∗ owns (c : Thread nD τ) (ms0_8 t) fullShare Y)
    ∗ (∃ Y, ⌜((datV m 0 c).toRRel outs0 (Rl m c)).Finds 9 t Y⌝ ∗ owns (c : Thread nD τ) (ms0_9 t) fullShare Y)
    ∗ (∃ Y, ⌜((datV m 0 c).toRRel outs0 (Rl m c)).Finds 10 t Y⌝ ∗ owns (c : Thread nD τ) (ms0_10 t) fullShare Y))
/-- and what it returns. -/
def postV (c : Dev nD) (t : Fin cfg0.N) : sProp 𝕄 :=
  iprop((datV m 0 c).Φ t.succ
    ∗ (datV m 0 c).owesAt () t.succ
    ∗ (datV m 0 c).leaves 0 t
    ∗ (datV m 0 c).leaves 1 t
    ∗ (datV m 0 c).leaves 2 t
    ∗ (datV m 0 c).leaves 3 t
    ∗ (datV m 0 c).leaves 4 t
    ∗ (datV m 0 c).leaves 5 t
    ∗ (∃ Y, ⌜Rl m c 6 t Y⌝ ∗ owns (c : Thread nD τ) (ms0_6 t) fullShare Y)
    ∗ (∃ Y, ⌜Rl m c 7 t Y⌝ ∗ owns (c : Thread nD τ) (ms0_7 t) fullShare Y)
    ∗ (∃ Y, ⌜Rl m c 8 t Y⌝ ∗ owns (c : Thread nD τ) (ms0_8 t) fullShare Y)
    ∗ (∃ Y, ⌜Rl m c 9 t Y⌝ ∗ owns (c : Thread nD τ) (ms0_9 t) fullShare Y)
    ∗ (∃ Y, ⌜Rl m c 10 t Y⌝ ∗ owns (c : Thread nD τ) (ms0_10 t) fullShare Y))

set_option maxHeartbeats 14400000 in
/-- The body at any point. -/
theorem sound_bodyV (c : Dev nD) (t : Fin cfg0.N) :
    preV m c t ⊢ wp frame (wpE (defs₀ (F := Ideal)) Variants.none c none) Set.univ (bodyAt0 t) (fun _ => postV m c t) := by
  unfold preV postV bodyAt0
  simp only [beforeV_0, beforeV_1, beforeV_2, beforeV_3, beforeV_4, beforeV_5]
  rw [show (datV m 0 c).owesAt () t.succ = (datV m 0 c).owesAt () t.castSucc from rfl]
  rw [show (datV m 0 c).Φ t.succ = PhiV m c (t.val + 1) from rfl, show (datV m 0 c).Φ t.castSucc = PhiV m c t.val from rfl]
  unfold PhiV
  rw [show (datV m 0 c).leaves 0 t = owns (c : Thread nD τ) (ms0_0 t) fullShare ((datV m 0 c).after 0 t) from by
    unfold Dat.leaves; rw [liveAt0_0 t], afterV_0]
  rw [show (datV m 0 c).leaves 1 t = owns (c : Thread nD τ) (ms0_1 t) fullShare ((datV m 0 c).after 1 t) from by
    unfold Dat.leaves; rw [liveAt0_1 t], afterV_1]
  rw [show (datV m 0 c).leaves 2 t = owns (c : Thread nD τ) (ms0_2 t) fullShare ((datV m 0 c).after 2 t) from by
    unfold Dat.leaves; rw [liveAt0_2 t], afterV_2]
  rw [show (datV m 0 c).leaves 3 t = owns (c : Thread nD τ) (ms0_3 t) fullShare ((datV m 0 c).after 3 t) from by
    unfold Dat.leaves; rw [liveAt0_3 t], afterV_3]
  rw [show (datV m 0 c).leaves 4 t = owns (c : Thread nD τ) (ms0_4 t) fullShare ((datV m 0 c).after 4 t) from by
    unfold Dat.leaves; rw [liveAt0_4 t], afterV_4]
  rw [show (datV m 0 c).leaves 5 t = owns (c : Thread nD τ) (ms0_5 t) fullShare ((datV m 0 c).after 5 t) from by
    unfold Dat.leaves; rw [liveAt0_5 t], afterV_5]
  iintro ⟨⟨%acc, %sc, %hI, HS0, HS1, HS2, HS3, Hg⟩, Ho, ⟨%d0, H0⟩, ⟨%d1, H1⟩, ⟨%d2, H2⟩, ⟨%d3, H3⟩, ⟨%d4, H4⟩, ⟨%d5, H5⟩, ⟨%d6, -, H6⟩, ⟨%d7, -, H7⟩, ⟨%d8, -, H8⟩, ⟨%d9, -, H9⟩, ⟨%d10, -, H10⟩⟩
  by_cases h0 : t.val % 8 = 0
  · have hacc : partB (grid0.coords t) (B0 m c t) (B2 m c t) (B3 m c t) = accG m c (t.val / 8) (t.val % 8 + 1) := by rw [acc_first m c t h0, h0]
    have hsc : scOk m c (t.val / 8) (t.val % 8 + 1) (scN (grid0.coords t) (B2 m c t) sc) := sc_next m c t sc (by rw [h0]; exact sc_zero m c _ sc)
    iapply (bodyA_val c (grid0.coords t) _ _ _ _ _ _ _ _ _ _ _ _ _ _ _ _ _ _ _ _ _ _ _ _ _ _ _ _ _ _ ((hcond0_0 t).mpr (by omega)) (fun h => absurd ((hcond0_1 t).mp h) (by omega)) (fun h => absurd ((hcond0_2 t).mp h) (by omega)) (iblk m c 0 t) (iblk m c 1 t) (iblk m c 2 t) (iblk m c 3 t) (iblk m c 4 t) (iblk m c 5 t) sc Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexact HS1
    isplitl [HS2]; · iexact HS2
    isplitl [HS3]; · iexact HS3
    iintro ⟨H0, H1, H2, H3, H4, H5, ⟨%e6, H6⟩, ⟨%e7, H7⟩, ⟨%e8, H8⟩, H9, H10, HS0, HS1, HS2, HS3⟩
    isplitl [HS0 HS1 HS2 HS3 Hg]
    · iexists _, _; isplitr
      · ipureintro; exact inv_step m c t _ _ hacc hsc
      isplitl [HS0]; · iexact HS0
      isplitl [HS1]; · iexact HS1
      isplitl [HS2]; · iexact HS2
      isplitl [HS3]; · iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; exact fun h => absurd h (by omega)
    isplitl [H7]
    · iexists _; isplitr; swap; · iexact H7
      ipureintro; exact fun h => absurd h (by omega)
    isplitl [H8]
    · iexists _; isplitr; swap; · iexact H8
      ipureintro; exact fun h => absurd h (by omega)
    isplitl [H9]
    · iexists _; isplitr; swap; · iexact H9
      ipureintro; exact codesB_eq m c t
    iexists _; isplitr; swap; · iexact H10
    ipureintro; exact fun h => absurd h (by omega)
  · obtain ⟨ha, hs⟩ := hI h0
    have hacc : accN (grid0.coords t) (B0 m c t) (B2 m c t) (B3 m c t) acc = accG m c (t.val / 8) (t.val % 8 + 1) := by rw [ha]; exact acc_next m c t
    have hsc : scOk m c (t.val / 8) (t.val % 8 + 1) (scN (grid0.coords t) (B2 m c t) sc) := sc_next m c t sc hs
    by_cases h2 : t.val % 8 = 7
    · have hacc8 : accN (grid0.coords t) (B0 m c t) (B2 m c t) (B3 m c t) acc = accG m c (t.val / 8) 8 := by rw [hacc, h2]
      have hq : qB (accN (grid0.coords t) (B0 m c t) (B2 m c t) (B3 m c t) acc) (B4 m c t) = qG m c (t.val / 8) := by rw [hacc8]; exact qB_eq m c t
      have hkv : kvB (accN (grid0.coords t) (B0 m c t) (B2 m c t) (B3 m c t) acc) (B5 m c t) = kvG m c (t.val / 8) := by rw [hacc8]; exact kvB_eq m c t
      have hpe : peB (grid0.coords t) (B1 m c t) (accN (grid0.coords t) (B0 m c t) (B2 m c t) (B3 m c t) acc) = peG m c (t.val / 8) := by rw [hacc8]; exact peB_eq m c t
      have hs : scN (grid0.coords t) (B2 m c t) sc = scG m c (t.val / 8) := scN_eq m c _ _ (by rw [h2] at hsc; exact hsc)
      iapply (bodyC_val c (grid0.coords t) _ _ _ _ _ _ _ _ _ _ _ _ _ _ _ _ _ _ _ _ _ _ _ _ _ _ _ _ _ _ (fun h => absurd ((hcond0_0 t).mp h) (by omega)) ((hcond0_1 t).mpr (by omega)) ((hcond0_2 t).mpr (by omega)) (iblk m c 0 t) (iblk m c 1 t) (iblk m c 2 t) (iblk m c 3 t) (iblk m c 4 t) (iblk m c 5 t) acc sc Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hg]
      · iexists _, _; isplitr
        · ipureintro; exact inv_step m c t _ _ hacc hsc
        isplitl [HS0]; · iexact HS0
        isplitl [HS1]; · iexact HS1
        isplitl [HS2]; · iexact HS2
        isplitl [HS3]; · iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; isplitr; swap; · iexact H6
        ipureintro; exact fun _ => hq
      isplitl [H7]
      · iexists _; isplitr; swap; · iexact H7
        ipureintro; exact fun _ => hkv
      isplitl [H8]
      · iexists _; isplitr; swap; · iexact H8
        ipureintro; exact fun _ => hpe
      isplitl [H9]
      · iexists _; isplitr; swap; · iexact H9
        ipureintro; exact codesB_eq m c t
      iexists _; isplitr; swap; · iexact H10
      ipureintro; exact fun _ => hs
    · iapply (bodyB_val c (grid0.coords t) _ _ _ _ _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (iblk m c 0 t) (iblk m c 1 t) (iblk m c 2 t) (iblk m c 3 t) (iblk m c 4 t) (iblk m c 5 t) acc sc Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, ⟨%e6, H6⟩, ⟨%e7, H7⟩, ⟨%e8, H8⟩, H9, H10, HS0, HS1, HS2, HS3⟩
      isplitl [HS0 HS1 HS2 HS3 Hg]
      · iexists _, _; isplitr
        · ipureintro; exact inv_step m c t _ _ hacc hsc
        isplitl [HS0]; · iexact HS0
        isplitl [HS1]; · iexact HS1
        isplitl [HS2]; · iexact HS2
        isplitl [HS3]; · iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; isplitr; swap; · iexact H6
        ipureintro; exact fun h => absurd h (by omega)
      isplitl [H7]
      · iexists _; isplitr; swap; · iexact H7
        ipureintro; exact fun h => absurd h (by omega)
      isplitl [H8]
      · iexists _; isplitr; swap; · iexact H8
        ipureintro; exact fun h => absurd h (by omega)
      isplitl [H9]
      · iexists _; isplitr; swap; · iexact H9
        ipureintro; exact codesB_eq m c t
      iexists _; isplitr; swap; · iexact H10
      ipureintro; exact fun h => absurd h (by omega)

/-- The body table's row at point `t`'s slots is the body as `bodyAt0` spells it. -/
theorem defsV_row (t : Fin cfg0.N) :
    defs₀ (F := Ideal) .tc cfg0.body (cfg0.bodyArgs t (cfg0.slots t)) = bodyAt0 t := by
  unfold defs₀; rw [Defs.onTc_tc]

/-- The body obligation, at every point. -/
theorem body_obligationV (c : Dev nD) : BodyObligationRel (datV m 0 c) (defs₀ (F := Ideal)) Variants.none () Set.univ outs0 (Rl m c) := fun t => by
  rw [bigSep_W0, bigSep_W0, defsV_row]
  exact triple_restated (sound_bodyV m c t) rfl .rfl fun _ => .rfl

/-- Before the first point the scratch buffers hold anything, -/
theorem hinV (c : Dev nD) : Pipeline.ΦA spec0 c ⊢ PhiV m c 0 := by
  rw [PhiA0_eq]; unfold PhiV
  iintro ⟨⟨⟨%a, HS0⟩, HS1, HS2, ⟨%s, HS3⟩⟩, Hg⟩
  iexists a, s
  isplitr
  · ipureintro; exact inv_zero m c a s
  isplitl [HS0]; · iexact HS0
  isplitl [HS1]; · iexact HS1
  isplitl [HS2]; · iexact HS2
  isplitl [HS3]; · iexact HS3
  iexact Hg
/-- and after the last what they hold is forgotten. -/
theorem houtV (c : Dev nD) (s : ℕ) : PhiV m c s ⊢ Pipeline.ΦA spec0 c := by
  rw [PhiA0_eq]; unfold PhiV
  iintro ⟨%a, %s, -, HS0, HS1, HS2, HS3, Hg⟩
  isplitr [Hg]
  · isplitl [HS0]; · iexists _; iexact HS0
    isplitl [HS1]; · iexact HS1
    isplitl [HS2]; · iexact HS2
    iexists _; iexact HS3
  iexact Hg

/-- The relational proof data. -/
abbrev rdV (c : Dev nD) := (datV m 0 c).toRRel outs0 (Rl m c)

set_option backward.isDefEq.respectTransparency.types false in
/-- The launch, with every semaphore counter at zero at the end. -/
theorem run_mainV : θ_run defs (onTc (τ := τ) (main (F := Ideal))) (s₀ m ρ) (fun r => (Pipeline.RDat.FramePost (cfgs 0) (fun c => rdV m c) (V m)) r ∧ r.2.sem = fun _ => 0) :=
  Pipeline.RDat.θ_run_frame_track (Q' := _) cfgs (0 : Fin 1) launch0 defs₀ Variants.none (fun c => rdV m c) m ρ main
    (hbody := fun c => (body_obligationV m c).toRRel) (hshare := fun c => (datV m 0 c).share_full fun _ => rfl)
    (howed := fun _ _ => rfl) (V := V m) (hmain := hmain m Variants.none) (hA := A_eqV m) (hin := hinV m) (hout := fun c => houtV m c _)

end Cert.KernelIdeal.Val
end
-- ==== Proof.IFin.lean ====
module
public import proofs.«01_k».proof.Proof.IRun
public import Idealize.ShloMosaic.Lib.Pipeline.ArrRel
@[expose] public section
set_option maxRecDepth 16384
noncomputable section

/-! What the output arrays hold at the end. -/

namespace Cert.KernelIdeal.Val
open Cert.KernelIdeal Cert.KernelIdeal.Gen
open Idealize.ShloMosaic Idealize.ShloMosaic.TcCoe Idealize.ShloMosaic.Tactic
open Idealize.SL.Sem
open Idealize.ShloMosaic.Rounds
open Idealize.ShloMosaic.Pipeline (Dat Cfg Window)

variable (m : (ℓ : Loc nD τ sig) → Buf (Elt Ideal) ℓ) (ρ : Dev nD → PrngReg)

/-- The whole arrays. -/
def qA (c : Dev nD) (i : S8192x1536.Idx) : EReal := Spec.q (fun n => Spec.y (X m c) (W m c) (WS m c) n (i 0)) (GQ m c) (i 1)
/-- The key-value array. -/
def kvA (c : Dev nD) (i : S8192x512.Idx) : EReal := Spec.kv (fun n => Spec.y (X m c) (W m c) (WS m c) n (i 0)) (GK m c) (i 1)
/-- The rotated array. -/
def peA (c : Dev nD) (i : S8192x64.Idx) : EReal :=
  Spec.pe (fun n => Spec.y (X m c) (W m c) (WS m c) n (i 0)) (IntOp.addi (ST m c) (BitVec.ofNat 32 (i 0).val)) (i 1)
/-- The array of codes. -/
def codesA (c : Dev nD) (i : S8192x16384.Idx) : EReal := Spec.code (X m c) (i 0) (i 1)
/-- The array of scales. -/
def scA (c : Dev nD) (i : S8192x128.Idx) : EReal := Spec.scOf (Spec.row (X m c) (i 0) (i 1))

/-- The block of the query part goes out at the last point of a token block. -/
theorem flush6 : ∀ t : Fin cfg0.N, (cfg0.win 6).flush t = true → t.val % 8 = 7 := (by decide +kernel : ∀ t : Fin grid0.N, win0_6.flush t = true → t.val % 8 = 7)
/-- The block of the key-value part goes out at the last point of a token block. -/
theorem flush7 : ∀ t : Fin cfg0.N, (cfg0.win 7).flush t = true → t.val % 8 = 7 := (by decide +kernel : ∀ t : Fin grid0.N, win0_7.flush t = true → t.val % 8 = 7)
/-- The block of the rotated part goes out at the last point of a token block. -/
theorem flush8 : ∀ t : Fin cfg0.N, (cfg0.win 8).flush t = true → t.val % 8 = 7 := (by decide +kernel : ∀ t : Fin grid0.N, win0_8.flush t = true → t.val % 8 = 7)
/-- The block of the scales goes out at the last point of a token block. -/
theorem flush10 : ∀ t : Fin cfg0.N, (cfg0.win 10).flush t = true → t.val % 8 = 7 := (by decide +kernel : ∀ t : Fin grid0.N, win0_10.flush t = true → t.val % 8 = 7)

/-- Where an output block's element lies, coordinate by coordinate. -/
theorem row_eq (t : Fin cfg0.N) (r : Fin 512) (i : Fin 8192) (h : i.val = t.val / 8 * 512 + r.val) : rowOf (t.val / 8) r = i :=
  Fin.ext (by have := i.isLt; show (512 * (t.val / 8) + r.val) % 8192 = i.val; rw [h] at *; rw [Nat.mod_eq_of_lt] <;> omega)

/-- At the end the array of the query part is complete. -/
theorem arr6 (c : Dev nD) (after : (w' : Fin cfg0.W) → Fin cfg0.N → (cfg0.win w').block.Idx → Elt Ideal (cfg0.win w').elt)
    (hL : ∀ u : Fin cfg0.N, (cfg0.win 6).flush u = true → (rdV m c).Leaves 6 u (after 6 u)) :
    ((rdV m c).withAfter after).arrAt 6 cfg0.N = qA m c := by
  refine Dat.arrAt_eq_of_covers (dat := (rdV m c).withAfter after) 6 _ (by decide +kernel) fun t hf y => ?_
  have h := (datV m 0 c).toRRel_leaves (fgt := outs0) (w := 6) rfl (hL t hf)
  have h : after 6 t = qG m c (t.val / 8) := h (flush6 t hf)
  blk_simp
  rw [Pipeline.RDat.withAfter_after, h]
  have hr : 512 * (t.val / 8) + (y 0).val < 8192 := by have := tlt t; have : (y 0).val < 512 := (y 0).isLt; omega

  have e : (win0_6.blk t).view.emb y = ix2 (⟨512 * (t.val / 8) + (y 0).val, hr⟩ : Fin 8192) (y 1) := by
    blk_ext [idx6 t]
  rw [e, rowOf_eq t (y 0) hr]
  rfl

/-- At the end the array of the key-value part is complete. -/
theorem arr7 (c : Dev nD) (after : (w' : Fin cfg0.W) → Fin cfg0.N → (cfg0.win w').block.Idx → Elt Ideal (cfg0.win w').elt)
    (hL : ∀ u : Fin cfg0.N, (cfg0.win 7).flush u = true → (rdV m c).Leaves 7 u (after 7 u)) :
    ((rdV m c).withAfter after).arrAt 7 cfg0.N = kvA m c := by
  refine Dat.arrAt_eq_of_covers (dat := (rdV m c).withAfter after) 7 _ (by decide +kernel) fun t hf y => ?_
  have h := (datV m 0 c).toRRel_leaves (fgt := outs0) (w := 7) rfl (hL t hf)
  have h : after 7 t = kvG m c (t.val / 8) := h (flush7 t hf)
  blk_simp
  rw [Pipeline.RDat.withAfter_after, h]
  have hr : 512 * (t.val / 8) + (y 0).val < 8192 := by have := tlt t; have : (y 0).val < 512 := (y 0).isLt; omega

  have e : (win0_7.blk t).view.emb y = ix2 (⟨512 * (t.val / 8) + (y 0).val, hr⟩ : Fin 8192) (y 1) := by
    blk_ext [idx7 t]
  rw [e, rowOf_eq t (y 0) hr]
  rfl

/-- At the end the array of the rotated part is complete. -/
theorem arr8 (c : Dev nD) (after : (w' : Fin cfg0.W) → Fin cfg0.N → (cfg0.win w').block.Idx → Elt Ideal (cfg0.win w').elt)
    (hL : ∀ u : Fin cfg0.N, (cfg0.win 8).flush u = true → (rdV m c).Leaves 8 u (after 8 u)) :
    ((rdV m c).withAfter after).arrAt 8 cfg0.N = peA m c := by
  refine Dat.arrAt_eq_of_covers (dat := (rdV m c).withAfter after) 8 _ (by decide +kernel) fun t hf y => ?_
  have h := (datV m 0 c).toRRel_leaves (fgt := outs0) (w := 8) rfl (hL t hf)
  have h : after 8 t = peG m c (t.val / 8) := h (flush8 t hf)
  blk_simp
  rw [Pipeline.RDat.withAfter_after, h]
  have hr : 512 * (t.val / 8) + (y 0).val < 8192 := by have := tlt t; have : (y 0).val < 512 := (y 0).isLt; omega

  have e : (win0_8.blk t).view.emb y = ix2 (⟨512 * (t.val / 8) + (y 0).val, hr⟩ : Fin 8192) (y 1) := by
    blk_ext [idx8 t]
  rw [e, rowOf_eq t (y 0) hr]
  rw [← rowOf_eq t (y 0) hr]; unfold peG; rw [← rowOf_eq t (y 0) hr]; rfl

/-- At the end the array of the codes is complete. -/
theorem arr9 (c : Dev nD) (after : (w' : Fin cfg0.W) → Fin cfg0.N → (cfg0.win w').block.Idx → Elt Ideal (cfg0.win w').elt)
    (hL : ∀ u : Fin cfg0.N, (cfg0.win 9).flush u = true → (rdV m c).Leaves 9 u (after 9 u)) :
    ((rdV m c).withAfter after).arrAt 9 cfg0.N = codesA m c := by
  refine Dat.arrAt_eq_of_covers (dat := (rdV m c).withAfter after) 9 _ (by decide +kernel) fun t hf y => ?_
  have h := (datV m 0 c).toRRel_leaves (fgt := outs0) (w := 9) rfl (hL t hf)
  have h : after 9 t = codeG m c t := h
  blk_simp
  rw [Pipeline.RDat.withAfter_after, h]
  have hr : 512 * (t.val / 8) + (y 0).val < 8192 := by have := tlt t; have : (y 0).val < 512 := (y 0).isLt; omega
  have hd : 2048 * (t.val % 8) + (y 1).val < 16384 := by have : (y 1).val < 2048 := (y 1).isLt; omega
  have e : (win0_9.blk t).view.emb y = ix2 (⟨512 * (t.val / 8) + (y 0).val, hr⟩ : Fin 8192) (⟨2048 * (t.val % 8) + (y 1).val, hd⟩ : Fin 16384) := by
    blk_ext [idx9 t]
  rw [e, rowOf_eq t (y 0) hr]
  rfl

/-- At the end the array of the scales is complete. -/
theorem arr10 (c : Dev nD) (after : (w' : Fin cfg0.W) → Fin cfg0.N → (cfg0.win w').block.Idx → Elt Ideal (cfg0.win w').elt)
    (hL : ∀ u : Fin cfg0.N, (cfg0.win 10).flush u = true → (rdV m c).Leaves 10 u (after 10 u)) :
    ((rdV m c).withAfter after).arrAt 10 cfg0.N = scA m c := by
  refine Dat.arrAt_eq_of_covers (dat := (rdV m c).withAfter after) 10 _ (by decide +kernel) fun t hf y => ?_
  have h := (datV m 0 c).toRRel_leaves (fgt := outs0) (w := 10) rfl (hL t hf)
  have h : after 10 t = scG m c (t.val / 8) := h (flush10 t hf)
  blk_simp
  rw [Pipeline.RDat.withAfter_after, h]
  have hr : 512 * (t.val / 8) + (y 0).val < 8192 := by have := tlt t; have : (y 0).val < 512 := (y 0).isLt; omega

  have e : (win0_10.blk t).view.emb y = ix2 (⟨512 * (t.val / 8) + (y 0).val, hr⟩ : Fin 8192) (y 1) := by
    blk_ext [idx10 t]
  rw [e, rowOf_eq t (y 0) hr]
  rfl

/-- Every argument array ends unchanged. -/
theorem unchangedV : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_ofR m ρ (fun c => rdV m c) (A_eqV m) ((θ_run defs _ _).mono (fun _ h => h.1) (run_mainV m ρ))

/-- What the run leaves in the output arrays. -/
theorem valuesV : θ_run defs (onTc (τ := τ) (main (F := Ideal))) ⟨m, fun _ => 0, ρ⟩ (fun r => ∀ c : Dev nD,
      r.2.mem ((c.tc : Thread nD τ).loc main_v3_0) = qA m c
      ∧ r.2.mem ((c.tc : Thread nD τ).loc main_v3_1) = kvA m c
      ∧ r.2.mem ((c.tc : Thread nD τ).loc main_v3_2) = peA m c
      ∧ r.2.mem ((c.tc : Thread nD τ).loc main_v3_3) = codesA m c
      ∧ r.2.mem ((c.tc : Thread nD τ).loc main_v3_4) = scA m c) :=
  (θ_run defs _ _).mono (fun r h c => by
    obtain ⟨after, hL, hA⟩ := Pipeline.RDat.FramePost.exists_exact h.1 c
    exact ⟨(hA 6).trans (arr6 m c after (hL 6)), (hA 7).trans (arr7 m c after (hL 7)), (hA 8).trans (arr8 m c after (hL 8)),
      (hA 9).trans (arr9 m c after (hL 9)), (hA 10).trans (arr10 m c after (hL 10))⟩) (run_mainV m ρ)

/-- The frame: the arguments unchanged and every counter at zero. -/
theorem frameV : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchangedV m ρ) ((θ_run defs _ _).mono (fun _ h => h.2) (run_mainV m ρ))

end Cert.KernelIdeal.Val
end
-- ==== Proof.RPay.lean ====
module
public import proofs.«01_k».proof.Proof.Gen.ReferenceIdeal.Frame
public import proofs.«01_k».proof.Proof.Spec
public import Idealize.ShloMosaic.Lib.Pointwise
public import Idealize.ShloMosaic.Lib.Pipeline.ValueKit
public import Idealize.ShloMosaic.Lib.StableHlo.ReadAt
public import Idealize.ShloMosaic.Lib.Claim
@[expose] public section
set_option maxRecDepth 16384
noncomputable section

/-! The reference host computation, as functions of arrays, in stages. -/

namespace Cert.ReferenceIdeal.Val
open Cert.ReferenceIdeal Cert.ReferenceIdeal.Gen
open Idealize.ShloMosaic Idealize.ShloMosaic.TcCoe Idealize.SL.Sem

open Cert.ReferenceIdeal.Facts
variable {F : FTy → Type} [FloatOps F]

/-- The activations, grouped. -/
def h1 (arg0 : FVec F S1x8192x16384 .bf16) : FVec F S8192x128x128 .f32 :=
  have v0 : FVec F S1x8192x16384 .f32 := ((extf .f32 · bitsLt_bf16_f32)) arg0
  have v1 : FVec F S8192x128x128 .f32 := shapeCast S8192x128x128 v0 shapeCasts_S1x8192x16384_S8192x128x128
  v1
/-- The magnitudes. -/
def h2 (v1 : FVec F S8192x128x128 .f32) : FVec F S8192x128x128 .f32 :=
  have v2 : FVec F S8192x128x128 .f32 := (Host.absf) v1
  v2
/-- A group's largest magnitude. -/
def h3 (v2 : FVec F S8192x128x128 .f32) : FVec F S8192x128 .f32 :=
  have cst : FVec F S_ .f32 := (constant S_ .f32 0xFF800000#32)
  have v3 : FVec F S8192x128 .f32 := ((fun x v => Host.reduce FloatOps.maximumf x v reducesTo_S8192x128x128_S8192x128_d2 h_S_)) v2 cst
  v3
/-- It over 448. -/
def h5 (v3 : FVec F S8192x128 .f32) : FVec F S8192x128 .f32 :=
  have cst_0 : FVec F S_ .f32 := (constant S_ .f32 0x3B124925#32)
  have v4 : FVec F S8192x128 .f32 := (broadcastInDim S8192x128 ![] bcast_S_S8192x128) cst_0
  have v5 : FVec F S8192x128 .f32 := (mulf) v3 v4
  v5
/-- The powers of two. -/
def h10  : FVec F S253 .f32 :=
  have v6 : FVec F S253 .f32 := (sitofp .f32 (iotaInDim S253 32 0))
  have cst_1 : FVec F S_ .f32 := (constant S_ .f32 0x42FA0000#32)
  have v7 : FVec F S253 .f32 := (broadcastInDim S253 ![] bcast_S_S253) cst_1
  have v8 : FVec F S253 .f32 := (subf) v6 v7
  have cst_2 : FVec F S_ .f32 := (constant S_ .f32 0x40000000#32)
  have v9 : FVec F S253 .f32 := (broadcastInDim S253 ![] bcast_S_S253) cst_2
  have v10 : FVec F S253 .f32 := (Host.powf) v9 v8
  v10
/-- The powers of two above it. -/
def h16 (v5 : FVec F S8192x128 .f32) (v10 : FVec F S253 .f32) : FVec F S8192x128x253 .f32 :=
  have v11 : FVec F S8192x128x1 .f32 := (broadcastInDim S8192x128x1 ![0, 1] bcast_S8192x128_S8192x128x1_0_1) v5
  have v12 : FVec F S1x1x253 .f32 := (broadcastInDim S1x1x253 ![2] bcast_S253_S1x1x253_2) v10
  have v13 : FVec F S8192x128x253 .f32 := (broadcastInDim S8192x128x253 ![0, 1, 2] bcast_S1x1x253_S8192x128x253_0_1_2) v12
  have v14 : FVec F S8192x128x253 .f32 := (broadcastInDim S8192x128x253 ![0, 1, 2] bcast_S8192x128x1_S8192x128x253_0_1_2) v11
  have v15 : IVec S8192x128x253 1 := (cmpf .ogt) v13 v14
  have cst_3 : FVec F S_ .f32 := (constant S_ .f32 0x7F800000#32)
  have v16 : FVec F S8192x128x253 .f32 := select v15 (broadcastInDim S8192x128x253 ![2] bcast_S253_S8192x128x253_2 v10) (broadcastInDim S8192x128x253 ![] bcast_S_S8192x128x253 (id cst_3))
  v16
/-- The least of them. -/
def h17 (v16 : FVec F S8192x128x253 .f32) : FVec F S8192x128 .f32 :=
  have cst_4 : FVec F S_ .f32 := (constant S_ .f32 0x7F800000#32)
  have v17 : FVec F S8192x128 .f32 := ((fun x v => Host.reduce FloatOps.minimumf x v reducesTo_S8192x128x253_S8192x128_d2 h_S_)) v16 cst_4
  v17
/-- The scales. -/
def h20 (v5 : FVec F S8192x128 .f32) (v17 : FVec F S8192x128 .f32) : FVec F S8192x128 .f32 :=
  have cst_5 : FVec F S_ .f32 := (constant S_ .f32 0x00800000#32)
  have v18 : FVec F S8192x128 .f32 := (broadcastInDim S8192x128 ![] bcast_S_S8192x128) cst_5
  have v19 : IVec S8192x128 1 := (cmpf .olt) v5 v18
  have cst_6 : FVec F S_ .f32 := (constant S_ .f32 0x3F800000#32)
  have v20 : FVec F S8192x128 .f32 := select v19 (broadcastInDim S8192x128 ![] bcast_S_S8192x128 (id cst_6)) v17
  v20
/-- The quotients, clipped. -/
def h27 (v1 : FVec F S8192x128x128 .f32) (v20 : FVec F S8192x128 .f32) : FVec F S8192x16384 .f32 :=
  have cst_7 : FVec F S_ .f32 := (constant S_ .f32 0x3F800000#32)
  have v21 : FVec F S8192x128 .f32 := (broadcastInDim S8192x128 ![] bcast_S_S8192x128) cst_7
  have v22 : FVec F S8192x128 .f32 := (Host.divf) v21 v20
  have v23 : FVec F S8192x128x1 .f32 := (broadcastInDim S8192x128x1 ![0, 1] bcast_S8192x128_S8192x128x1_0_1) v22
  have v24 : FVec F S8192x128x128 .f32 := (broadcastInDim S8192x128x128 ![0, 1, 2] bcast_S8192x128x1_S8192x128x128_0_1_2) v23
  have v25 : FVec F S8192x128x128 .f32 := (mulf) v1 v24
  have cst_8 : FVec F S_ .f32 := (constant S_ .f32 0xC3E00000#32)
  have cst_9 : FVec F S_ .f32 := (constant S_ .f32 0x43E00000#32)
  have v26 : FVec F S8192x128x128 .f32 := minimumf (broadcastInDim S8192x128x128 ![] bcast_S_S8192x128x128 (id cst_9)) (maximumf (broadcastInDim S8192x128x128 ![] bcast_S_S8192x128x128 (id cst_8)) v25)
  have v27 : FVec F S8192x16384 .f32 := shapeCast S8192x16384 v26 shapeCasts_S8192x128x128_S8192x16384
  v27
/-- The codes times their scales. -/
def h32 (v28_1 : FVec F S8192x16384 .bf16) (v20 : FVec F S8192x128 .f32) : FVec F S8192x16384 .bf16 :=
  have v29 : FVec F S8192x128 .bf16 := ((truncf .bf16 · bitsLt_bf16_f32)) v20
  have v30 : FVec F S8192x128x128 .bf16 := (broadcastInDim S8192x128x128 ![0, 1] bcast_S8192x128_S8192x128x128_0_1) v29
  have v31 : FVec F S8192x16384 .bf16 := shapeCast S8192x16384 v30 shapeCasts_S8192x128x128_S8192x16384
  have v32 : FVec F S8192x16384 .bf16 := (mulf) v28_1 v31
  v32
/-- The weights times their scales. -/
def h39 (v28_2 : FVec F S2112x16384 .bf16) (arg2 : FVec F S17x128 .f32) : FVec F S2112x16384 .bf16 :=
  have v33 : FVec F S17x128 .bf16 := ((truncf .bf16 · bitsLt_bf16_f32)) arg2
  have v34 : FVec F S17x128x128 .bf16 := (broadcastInDim S17x128x128 ![0, 2] bcast_S17x128_S17x128x128_0_2) v33
  have v35 : FVec F S2176x128 .bf16 := shapeCast S2176x128 v34 shapeCasts_S17x128x128_S2176x128
  have v36 : FVec F S2112x128 .bf16 := ((extractStridedSlice S2112x128 ![0, 0] · slices_S2176x128_S2112x128_0_0)) v35
  have v37 : FVec F S2112x128x128 .bf16 := (broadcastInDim S2112x128x128 ![0, 1] bcast_S2112x128_S2112x128x128_0_1) v36
  have v38 : FVec F S2112x16384 .bf16 := shapeCast S2112x16384 v37 shapeCasts_S2112x128x128_S2112x16384
  have v39 : FVec F S2112x16384 .bf16 := (mulf) v28_2 v38
  v39
/-- The projection. -/
def h40 (v32 : FVec F S8192x16384 .bf16) (v39 : FVec F S2112x16384 .bf16) : FVec F S8192x2112 .f32 :=
  have v40 : FVec F S8192x2112 .f32 := ((fun l r => Host.dotGeneral dot_S8192x16384_S2112x16384_S8192x2112_1_1_0_0_n_n none l r)) v32 v39
  v40
/-- The query part, normalised. -/
def h56 (v40 : FVec F S8192x2112 .f32) (arg3 : FVec F S1536 .bf16) : FVec F S8192x1536 .bf16 :=
  have v41 : FVec F S8192x1536 .f32 := ((extractStridedSlice S8192x1536 ![0, 0] · slices_S8192x2112_S8192x1536_0_0)) v40
  have v42 : FVec F S8192x1536 .f32 := (mulf) v41 v41
  have cst_10 : FVec F S_ .f32 := (constant S_ .f32 0x00000000#32)
  have v43 : FVec F S8192 .f32 := ((fun x v => Host.reduceAdd x v reducesTo_S8192x1536_S8192_d1 h_S_)) v42 cst_10
  have v44 : FVec F S8192x1 .f32 := (broadcastInDim S8192x1 ![0] bcast_S8192_S8192x1_0) v43
  have cst_11 : FVec F S_ .f32 := (constant S_ .f32 0x44C00000#32)
  have v45 : FVec F S8192x1 .f32 := (broadcastInDim S8192x1 ![] bcast_S_S8192x1) cst_11
  have v46 : FVec F S8192x1 .f32 := (Host.divf) v44 v45
  have cst_12 : FVec F S_ .f32 := (constant S_ .f32 0x358637BD#32)
  have v47 : FVec F S8192x1 .f32 := (broadcastInDim S8192x1 ![] bcast_S_S8192x1) cst_12
  have v48 : FVec F S8192x1 .f32 := (addf) v46 v47
  have v49 : FVec F S8192x1 .f32 := (Host.rsqrt) v48
  have v50 : FVec F S8192x1536 .f32 := (broadcastInDim S8192x1536 ![0, 1] bcast_S8192x1_S8192x1536_0_1) v49
  have v51 : FVec F S8192x1536 .f32 := (mulf) v41 v50
  have v52 : FVec F S1536 .f32 := ((extf .f32 · bitsLt_bf16_f32)) arg3
  have v53 : FVec F S1x1536 .f32 := (broadcastInDim S1x1536 ![1] bcast_S1536_S1x1536_1) v52
  have v54 : FVec F S8192x1536 .f32 := (broadcastInDim S8192x1536 ![0, 1] bcast_S1x1536_S8192x1536_0_1) v53
  have v55 : FVec F S8192x1536 .f32 := (mulf) v51 v54
  have v56 : FVec F S8192x1536 .bf16 := ((truncf .bf16 · bitsLt_bf16_f32)) v55
  v56
/-- The key-value part, normalised. -/
def h72 (v40 : FVec F S8192x2112 .f32) (arg4 : FVec F S512 .bf16) : FVec F S8192x512 .bf16 :=
  have v57 : FVec F S8192x512 .f32 := ((extractStridedSlice S8192x512 ![0, 1536] · slices_S8192x2112_S8192x512_0_1536)) v40
  have v58 : FVec F S8192x512 .f32 := (mulf) v57 v57
  have cst_13 : FVec F S_ .f32 := (constant S_ .f32 0x00000000#32)
  have v59 : FVec F S8192 .f32 := ((fun x v => Host.reduceAdd x v reducesTo_S8192x512_S8192_d1 h_S_)) v58 cst_13
  have v60 : FVec F S8192x1 .f32 := (broadcastInDim S8192x1 ![0] bcast_S8192_S8192x1_0) v59
  have cst_14 : FVec F S_ .f32 := (constant S_ .f32 0x44000000#32)
  have v61 : FVec F S8192x1 .f32 := (broadcastInDim S8192x1 ![] bcast_S_S8192x1) cst_14
  have v62 : FVec F S8192x1 .f32 := (Host.divf) v60 v61
  have cst_15 : FVec F S_ .f32 := (constant S_ .f32 0x358637BD#32)
  have v63 : FVec F S8192x1 .f32 := (broadcastInDim S8192x1 ![] bcast_S_S8192x1) cst_15
  have v64 : FVec F S8192x1 .f32 := (addf) v62 v63
  have v65 : FVec F S8192x1 .f32 := (Host.rsqrt) v64
  have v66 : FVec F S8192x512 .f32 := (broadcastInDim S8192x512 ![0, 1] bcast_S8192x1_S8192x512_0_1) v65
  have v67 : FVec F S8192x512 .f32 := (mulf) v57 v66
  have v68 : FVec F S512 .f32 := ((extf .f32 · bitsLt_bf16_f32)) arg4
  have v69 : FVec F S1x512 .f32 := (broadcastInDim S1x512 ![1] bcast_S512_S1x512_1) v68
  have v70 : FVec F S8192x512 .f32 := (broadcastInDim S8192x512 ![0, 1] bcast_S1x512_S8192x512_0_1) v69
  have v71 : FVec F S8192x512 .f32 := (mulf) v67 v70
  have v72 : FVec F S8192x512 .bf16 := ((truncf .bf16 · bitsLt_bf16_f32)) v71
  v72
/-- The positions. -/
def h78 (arg5 : IVec S1 32) : FVec F S8192 .f32 :=
  have v74 : IVec S_ 32 := shapeCast S_ arg5 shapeCasts_S1_S_
  have v75 : IVec S8192 32 := (iotaInDim S8192 32 0)
  have v76 : IVec S8192 32 := (broadcastInDim S8192 ![] bcast_S_S8192) v74
  have v77 : IVec S8192 32 := (addi) v76 v75
  have v78 : FVec F S8192 .f32 := (sitofp .f32) v77
  v78
/-- The frequencies. -/
def h88  : FVec F S32 .f32 :=
  have v79 : FVec F S32 .f32 := (sitofp .f32 (iotaInDim S32 32 0))
  have cst_16 : FVec F S_ .f32 := (constant S_ .f32 0x40000000#32)
  have v80 : FVec F S32 .f32 := (broadcastInDim S32 ![] bcast_S_S32) cst_16
  have v81 : FVec F S32 .f32 := (mulf) v80 v79
  have cst_17 : FVec F S_ .f32 := (constant S_ .f32 0x00000000#32)
  have v82 : FVec F S32 .f32 := (broadcastInDim S32 ![] bcast_S_S32) cst_17
  have v83 : FVec F S32 .f32 := (addf) v82 v81
  have v84 : FVec F S32 .f32 := (Host.negf) v83
  have cst_18 : FVec F S_ .f32 := (constant S_ .f32 0x42800000#32)
  have v85 : FVec F S32 .f32 := (broadcastInDim S32 ![] bcast_S_S32) cst_18
  have v86 : FVec F S32 .f32 := (Host.divf) v84 v85
  have cst_19 : FVec F S_ .f32 := (constant S_ .f32 0x461C4000#32)
  have v87 : FVec F S32 .f32 := (broadcastInDim S32 ![] bcast_S_S32) cst_19
  have v88 : FVec F S32 .f32 := (Host.powf) v87 v86
  v88
/-- The angles. -/
def h93 (v78 : FVec F S8192 .f32) (v88 : FVec F S32 .f32) : FVec F S8192x32 .f32 :=
  have v89 : FVec F S8192x1 .f32 := (broadcastInDim S8192x1 ![0] bcast_S8192_S8192x1_0) v78
  have v90 : FVec F S1x32 .f32 := (broadcastInDim S1x32 ![1] bcast_S32_S1x32_1) v88
  have v91 : FVec F S8192x32 .f32 := (broadcastInDim S8192x32 ![0, 1] bcast_S8192x1_S8192x32_0_1) v89
  have v92 : FVec F S8192x32 .f32 := (broadcastInDim S8192x32 ![0, 1] bcast_S1x32_S8192x32_0_1) v90
  have v93 : FVec F S8192x32 .f32 := (mulf) v91 v92
  v93
/-- The rotary part in pairs. -/
def h96 (v40 : FVec F S8192x2112 .f32) : FVec F S8192x32x2 .f32 :=
  have v73 : FVec F S8192x64 .f32 := ((extractStridedSlice S8192x64 ![0, 2048] · slices_S8192x2112_S8192x64_0_2048)) v40
  have v96 : FVec F S8192x32x2 .f32 := shapeCast S8192x32x2 v73 shapeCasts_S8192x64_S8192x32x2
  v96
/-- The first of each pair, rotated. -/
def h103 (v96 : FVec F S8192x32x2 .f32) (v93 : FVec F S8192x32 .f32) : FVec F S8192x32 .f32 :=
  have v94 : FVec F S8192x32 .f32 := (Host.cos) v93
  have v95 : FVec F S8192x32 .f32 := (Host.sin) v93
  have v97 : FVec F S8192x32x1 .f32 := ((extractStridedSlice S8192x32x1 ![0, 0, 0] · slices_S8192x32x2_S8192x32x1_0_0_0)) v96
  have v98 : FVec F S8192x32 .f32 := shapeCast S8192x32 v97 shapeCasts_S8192x32x1_S8192x32
  have v99 : FVec F S8192x32x1 .f32 := ((extractStridedSlice S8192x32x1 ![0, 0, 1] · slices_S8192x32x2_S8192x32x1_0_0_1)) v96
  have v100 : FVec F S8192x32 .f32 := shapeCast S8192x32 v99 shapeCasts_S8192x32x1_S8192x32
  have v101 : FVec F S8192x32 .f32 := (mulf) v98 v94
  have v102 : FVec F S8192x32 .f32 := (mulf) v100 v95
  have v103 : FVec F S8192x32 .f32 := (subf) v101 v102
  v103
/-- The second of each pair, rotated. -/
def h106 (v96 : FVec F S8192x32x2 .f32) (v93 : FVec F S8192x32 .f32) : FVec F S8192x32 .f32 :=
  have v94 : FVec F S8192x32 .f32 := (Host.cos) v93
  have v95 : FVec F S8192x32 .f32 := (Host.sin) v93
  have v97 : FVec F S8192x32x1 .f32 := ((extractStridedSlice S8192x32x1 ![0, 0, 0] · slices_S8192x32x2_S8192x32x1_0_0_0)) v96
  have v98 : FVec F S8192x32 .f32 := shapeCast S8192x32 v97 shapeCasts_S8192x32x1_S8192x32
  have v99 : FVec F S8192x32x1 .f32 := ((extractStridedSlice S8192x32x1 ![0, 0, 1] · slices_S8192x32x2_S8192x32x1_0_0_1)) v96
  have v100 : FVec F S8192x32 .f32 := shapeCast S8192x32 v99 shapeCasts_S8192x32x1_S8192x32
  have v104 : FVec F S8192x32 .f32 := (mulf) v98 v95
  have v105 : FVec F S8192x32 .f32 := (mulf) v100 v94
  have v106 : FVec F S8192x32 .f32 := (addf) v104 v105
  v106
/-- The pairs laid side by side. -/
def h111 (v103 : FVec F S8192x32 .f32) (v106 : FVec F S8192x32 .f32) : FVec F S8192x64 .bf16 :=
  have v107 : FVec F S8192x32x1 .f32 := (broadcastInDim S8192x32x1 ![0, 1] bcast_S8192x32_S8192x32x1_0_1) v103
  have v108 : FVec F S8192x32x1 .f32 := (broadcastInDim S8192x32x1 ![0, 1] bcast_S8192x32_S8192x32x1_0_1) v106
  have v109 : FVec F S8192x32x2 .f32 := ((fun a b => concatenate S8192x32x2 2 [⟨S8192x32x1, a⟩, ⟨S8192x32x1, b⟩] concatenates_S8192x32x1_S8192x32x1_S8192x32x2_d2)) v107 v108
  have v110 : FVec F S8192x64 .f32 := shapeCast S8192x64 v109 shapeCasts_S8192x32x2_S8192x64
  have v111 : FVec F S8192x64 .bf16 := ((truncf .bf16 · bitsLt_bf16_f32)) v110
  v111

end Cert.ReferenceIdeal.Val
end
-- ==== Proof.RRead.lean ====
module
public import proofs.«01_k».proof.Proof.RPay
public import proofs.«01_k».proof.Proof.Gen.ReferenceIdeal.Frame
public import Idealize.ShloMosaic.Lib.Pointwise
public import Idealize.ShloMosaic.Lib.Pipeline.ValueKit
public import Idealize.ShloMosaic.Lib.StableHlo.ReadAt
public import Idealize.ShloMosaic.Lib.Claim
@[expose] public section
set_option maxRecDepth 16384
noncomputable section

namespace Cert.ReferenceIdeal.Val
open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-! What the host lines before and after the region leave, by stages. -/

/-- The grouped activations, read off the lines before the region. -/
theorem rd1 : V m c main_v1 = h1 (F := Ideal) (m ((c : Thread nD τ).loc main_arg0)) := by
  unfold V V0
  after_reads_simp
  rfl
/-- The quotients. -/
theorem rd5 : V m c main_v5 = h5 (F := Ideal) (h3 (F := Ideal) (h2 (F := Ideal) (V m c main_v1))) := by
  unfold V V0
  generalize (fun b => m (c, b)) = Q
  after_reads_simp
  rfl
/-- The scales. -/
theorem rd20 : V m c main_v20 = h20 (F := Ideal) (V m c main_v5) (h17 (F := Ideal) (h16 (F := Ideal) (V m c main_v5) (h10 (F := Ideal)))) := by
  unfold V V0
  generalize (fun b => m (c, b)) = Q
  after_reads_simp
  simp -implicitDefEqProofs only [StableHlo.TRef.toBuf, StableHlo.TRef.ofBuf, cast_cast, cast_eq]
  rfl
/-- The clipped quotients. -/
theorem rd27 : V m c main_v27 = h27 (F := Ideal) (V m c main_v1) (V m c main_v20) := by
  unfold V V0
  generalize (fun b => m (c, b)) = Q
  after_reads_simp
  simp -implicitDefEqProofs only [StableHlo.TRef.toBuf, StableHlo.TRef.ofBuf, cast_cast, cast_eq]
  rfl

variable (Q : Valuation τ sig (Elt Ideal))
/-- The projection, read off the lines after the region. -/
theorem td40 : StableHlo.after hostOps1 Q (Proc.devRef .tc main_v40) = h40 (F := Ideal)
    (h32 (F := Ideal) (Q (Proc.devRef .tc main_v28_1)) (Q (Proc.devRef .tc main_v20)))
    (h39 (F := Ideal) (Q (Proc.devRef .tc main_v28_2)) (Q (Proc.devRef .tc main_arg2))) := by
  after_reads_simp
  rfl
/-- The query part. -/
theorem td56 : StableHlo.after hostOps1 Q (Proc.devRef .tc main_v56)
    = h56 (F := Ideal) (StableHlo.after hostOps1 Q (Proc.devRef .tc main_v40)) (Q (Proc.devRef .tc main_arg3)) := by
  after_reads_simp
  rfl
/-- The key-value part. -/
theorem td72 : StableHlo.after hostOps1 Q (Proc.devRef .tc main_v72)
    = h72 (F := Ideal) (StableHlo.after hostOps1 Q (Proc.devRef .tc main_v40)) (Q (Proc.devRef .tc main_arg4)) := by
  after_reads_simp
  rfl
/-- The rotated part. -/
theorem td111 : StableHlo.after hostOps1 Q (Proc.devRef .tc main_v111)
    = h111 (F := Ideal) (h103 (F := Ideal) (h96 (F := Ideal) (StableHlo.after hostOps1 Q (Proc.devRef .tc main_v40)))
        (h93 (F := Ideal) (h78 (F := Ideal) (Q (Proc.devRef .tc main_arg5))) (h88 (F := Ideal))))
      (h106 (F := Ideal) (h96 (F := Ideal) (StableHlo.after hostOps1 Q (Proc.devRef .tc main_v40)))
        (h93 (F := Ideal) (h78 (F := Ideal) (Q (Proc.devRef .tc main_arg5))) (h88 (F := Ideal)))) := by
  after_reads_simp
  rfl

end Cert.ReferenceIdeal.Val
end
-- ==== Proof.RFin.lean ====
module
public import proofs.«01_k».proof.Proof.RRead
public import proofs.«01_k».proof.Proof.Gen.ReferenceIdeal.Frame
public import Idealize.ShloMosaic.Lib.Pointwise
public import Idealize.ShloMosaic.Lib.Pipeline.ValueKit
public import Idealize.ShloMosaic.Lib.StableHlo.ReadAt
public import Idealize.ShloMosaic.Lib.Claim
@[expose] public section
set_option maxRecDepth 16384
noncomputable section

namespace Cert.ReferenceIdeal.Val
open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- Where the blocks lie. -/
theorem jdx0 : ∀ t : Fin cfg0.N, win0_0.index t 0 = 0 ∧ win0_0.index t 1 = 0 := (by decide +kernel : ∀ t : Fin grid0.N, win0_0.index t 0 = 0 ∧ win0_0.index t 1 = 0)
/-- Where the blocks of the region lie: at the origin. -/
theorem jdx1 : ∀ t : Fin cfg0.N, win0_1.index t 0 = 0 ∧ win0_1.index t 1 = 0 := (by decide +kernel : ∀ t : Fin grid0.N, win0_1.index t 0 = 0 ∧ win0_1.index t 1 = 0)
/-- Where the blocks of the region lie: at the origin. -/
theorem jdx2 : ∀ t : Fin cfg0.N, win0_2.index t 0 = 0 ∧ win0_2.index t 1 = 0 := (by decide +kernel : ∀ t : Fin grid0.N, win0_2.index t 0 = 0 ∧ win0_2.index t 1 = 0)
/-- Where the blocks of the region lie: at the origin. -/
theorem jdx3 : ∀ t : Fin cfg0.N, win0_3.index t 0 = 0 ∧ win0_3.index t 1 = 0 := (by decide +kernel : ∀ t : Fin grid0.N, win0_3.index t 0 = 0 ∧ win0_3.index t 1 = 0)
/-- Where the blocks of the region lie: at the origin. -/
theorem jdx4 : ∀ t : Fin cfg0.N, win0_4.index t 0 = 0 ∧ win0_4.index t 1 = 0 := (by decide +kernel : ∀ t : Fin grid0.N, win0_4.index t 0 = 0 ∧ win0_4.index t 1 = 0)
/-- The codes the region leaves: over the extended reals the clipped quotients themselves. -/
theorem arr2 : (dats (F := Ideal) m 0 c).arrAt 2 cfg0.N = (V m c main_v27 : FVec Ideal S8192x16384 .f32) := by
  refine Pipeline.Dat.arrAt_eq_of_covers (dat := dats (F := Ideal) m 0 c) 2 _ (by decide +kernel) fun t hf y => ?_
  blk_simp
  rw [after0_2]
  frame_out
  pointwise [k0_pay1]
  blk_simp [iblk]
  blk_ext [jdx0 t, jdx2 t]
/-- The same again. -/
theorem arr3 : (dats (F := Ideal) m 0 c).arrAt 3 cfg0.N = (V m c main_v27 : FVec Ideal S8192x16384 .f32) := by
  refine Pipeline.Dat.arrAt_eq_of_covers (dat := dats (F := Ideal) m 0 c) 3 _ (by decide +kernel) fun t hf y => ?_
  blk_simp
  rw [after0_3]
  frame_out
  pointwise [k0_pay2]
  blk_simp [iblk]
  blk_ext [jdx0 t, jdx3 t]
/-- The weights the region leaves. -/
theorem arr4 : (dats (F := Ideal) m 0 c).arrAt 4 cfg0.N = (m ((c : Thread nD τ).loc main_arg1) : FVec Ideal S2112x16384 .fp8e4m3) := by
  refine Pipeline.Dat.arrAt_eq_of_covers (dat := dats (F := Ideal) m 0 c) 4 _ (by decide +kernel) fun t hf y => ?_
  blk_simp
  rw [after0_4]
  frame_out
  pointwise [k0_pay3]
  blk_simp [iblk]
  rw [V_main_arg1]
  blk_ext [jdx1 t, jdx4 t]

/-- What the lines after the region start from. -/
abbrev Q : Valuation τ sig (Elt Ideal) := Pipeline.withArrays (cfgs 0).spec c (V0 m c) fun w => (dats (F := Ideal) m 0 c).arrAt w (cfgs 0).N
/-- The five arrays of the region are different. -/
theorem inj0 : Function.Injective (Pipeline.arrRef spec0) := by decide +kernel
/-- The scales, untouched by the region. -/
theorem q20 : Q m c (Proc.devRef .tc main_v20) = V m c main_v20 :=
  Pipeline.withArrays_of_ne _ c (V0 m c) _ main_v20 (by exact (by decide : ∀ w, Pipeline.arrRef spec0 w ≠ main_v20))
/-- The weight scales, untouched. -/
theorem q2 : Q m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
/-- The query gains, untouched. -/
theorem q3 : Q m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
/-- The key-value gains, untouched. -/
theorem q4 : Q m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
/-- The first position, untouched. -/
theorem q5 : Q m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)
/-- The codes as the region leaves them. -/
theorem q28_1 : Q m c (Proc.devRef .tc main_v28_1) = (V m c main_v27 : FVec Ideal S8192x16384 .f32) :=
  (Pipeline.withArrays_arr spec0 inj0 c (V0 m c) (fun w => (dats (F := Ideal) m 0 c).arrAt w (cfgs 0).N) 3).trans (arr3 m c)
/-- The weights as the region leaves them. -/
theorem q28_2 : Q m c (Proc.devRef .tc main_v28_2) = (m ((c : Thread nD τ).loc main_arg1) : FVec Ideal S2112x16384 .fp8e4m3) :=
  (Pipeline.withArrays_arr spec0 inj0 c (V0 m c) (fun w => (dats (F := Ideal) m 0 c).arrAt w (cfgs 0).N) 4).trans (arr4 m c)

/-- The scales of an activation array. -/
def fSc (x : FVec Ideal S1x8192x16384 .bf16) : FVec Ideal S8192x128 .f32 :=
  h20 (F := Ideal) (h5 (F := Ideal) (h3 (F := Ideal) (h2 (F := Ideal) (h1 (F := Ideal) x))))
    (h17 (F := Ideal) (h16 (F := Ideal) (h5 (F := Ideal) (h3 (F := Ideal) (h2 (F := Ideal) (h1 (F := Ideal) x)))) (h10 (F := Ideal))))
/-- Its codes. -/
def fCo (x : FVec Ideal S1x8192x16384 .bf16) : FVec Ideal S8192x16384 .f32 := h27 (F := Ideal) (h1 (F := Ideal) x) (fSc x)
/-- The projection. -/
def fY (x : FVec Ideal S1x8192x16384 .bf16) (w : FVec Ideal S2112x16384 .fp8e4m3) (s : FVec Ideal S17x128 .f32) : FVec Ideal S8192x2112 .f32 :=
  h40 (F := Ideal) (h32 (F := Ideal) (fCo x) (fSc x)) (h39 (F := Ideal) w s)
/-- The rotated part. -/
def fPe (y : FVec Ideal S8192x2112 .f32) (p : IVec S1 32) : FVec Ideal S8192x64 .bf16 :=
  h111 (F := Ideal) (h103 (F := Ideal) (h96 (F := Ideal) y) (h93 (F := Ideal) (h78 (F := Ideal) p) (h88 (F := Ideal))))
    (h106 (F := Ideal) (h96 (F := Ideal) y) (h93 (F := Ideal) (h78 (F := Ideal) p) (h88 (F := Ideal))))

/-- The activations. -/
abbrev A0 : FVec Ideal S1x8192x16384 .bf16 := m ((c : Thread nD τ).loc main_arg0)
/-- The weights. -/
abbrev A1 : FVec Ideal S2112x16384 .fp8e4m3 := m ((c : Thread nD τ).loc main_arg1)
/-- The weight scales. -/
abbrev A2 : FVec Ideal S17x128 .f32 := m ((c : Thread nD τ).loc main_arg2)
/-- The query gains. -/
abbrev A3 : FVec Ideal S1536 .bf16 := m ((c : Thread nD τ).loc main_arg3)
/-- The key-value gains. -/
abbrev A4 : FVec Ideal S512 .bf16 := m ((c : Thread nD τ).loc main_arg4)
/-- The first position. -/
abbrev A5 : IVec S1 32 := m ((c : Thread nD τ).loc main_arg5)

/-- The scales, from the arguments. -/
theorem v20_eq : V m c main_v20 = fSc (A0 m c) := by
  rw [rd20, rd5, rd1]; rfl
/-- The clipped quotients, from the arguments. -/
theorem v27_eq : V m c main_v27 = fCo (A0 m c) := by
  rw [rd27, v20_eq, rd1]; rfl
/-- The projection, from the arguments. -/
theorem v40_eq : StableHlo.after hostOps1 (Q m c) (Proc.devRef .tc main_v40) = fY (A0 m c) (A1 m c) (A2 m c) := by
  rw [td40, q28_1, q28_2, q20, q2, v20_eq, v27_eq]; rfl
/-- The query part, from the arguments. -/
theorem v56_eq : StableHlo.after hostOps1 (Q m c) (Proc.devRef .tc main_v56) = h56 (F := Ideal) (fY (A0 m c) (A1 m c) (A2 m c)) (A3 m c) := by
  rw [td56, v40_eq, q3]
/-- The key-value part, from the arguments. -/
theorem v72_eq : StableHlo.after hostOps1 (Q m c) (Proc.devRef .tc main_v72) = h72 (F := Ideal) (fY (A0 m c) (A1 m c) (A2 m c)) (A4 m c) := by
  rw [td72, v40_eq, q4]
/-- The rotated part, from the arguments. -/
theorem v111_eq : StableHlo.after hostOps1 (Q m c) (Proc.devRef .tc main_v111) = fPe (fY (A0 m c) (A1 m c) (A2 m c)) (A5 m c) := by
  rw [td111, v40_eq, q5]; rfl
/-- The scales at the end. -/
theorem e20 : StableHlo.after hostOps1 (Q m c) (Proc.devRef .tc main_v20) = fSc (A0 m c) := by
  rw [StableHlo.after_of_writes_sub (r := main_v20) hostOps1 _ hostOps1_writes (by decide +kernel), q20, v20_eq]

variable (ρ : Dev nD → PrngReg)
/-- What a run of the reference leaves. -/
theorem valuesR : θ_run defs (onTc (τ := τ) (main (F := Ideal))) ⟨m, fun _ => 0, ρ⟩ (fun r => ∀ c : Dev nD,
      r.2.mem ((c.tc : Thread nD τ).loc main_v56) = h56 (F := Ideal) (fY (A0 m c) (A1 m c) (A2 m c)) (A3 m c)
      ∧ r.2.mem ((c.tc : Thread nD τ).loc main_v72) = h72 (F := Ideal) (fY (A0 m c) (A1 m c) (A2 m c)) (A4 m c)
      ∧ r.2.mem ((c.tc : Thread nD τ).loc main_v111) = fPe (fY (A0 m c) (A1 m c) (A2 m c)) (A5 m c)
      ∧ r.2.mem ((c.tc : Thread nD τ).loc main_v28_0) = fCo (A0 m c)
      ∧ r.2.mem ((c.tc : Thread nD τ).loc main_v20) = fSc (A0 m c)) :=
  (θ_run defs _ _).mono (fun r h c => by
    have rest : ∀ b : Ref sig .tc, b ∈ Pipeline.restRefs sig (cfgs 0).spec → r.2.mem ((c : Thread nD τ).loc b) = StableHlo.after hostOps1 (Q m c) (Proc.devRef .tc b) := by
      intro b hb
      rw [(h c).2 b hb]
      unfold Pipeline.afterTail₀
      rw [List.flatten_cons, List.flatten_nil, List.append_nil]
    refine ⟨(rest main_v56 (Pipeline.mem_restRefs_of main_v56 (by decide) (by decide))).trans (v56_eq m c),
      (rest main_v72 (Pipeline.mem_restRefs_of main_v72 (by decide) (by decide))).trans (v72_eq m c),
      (rest main_v111 (Pipeline.mem_restRefs_of main_v111 (by decide) (by decide))).trans (v111_eq m c), ?_,
      (rest main_v20 (Pipeline.mem_restRefs_of main_v20 (by decide) (by decide))).trans (e20 m c)⟩
    exact ((h c).1 2).trans ((arr2 m c).trans (v27_eq m c))) (run_main m ρ)

end Cert.ReferenceIdeal.Val
end
-- ==== Proof.RAt.lean ====
module
public import proofs.«01_k».proof.Proof.RPay
public import proofs.«01_k».proof.Proof.Spec
public import Idealize.ShloMosaic.Lib.Pointwise
public import Idealize.ShloMosaic.Lib.Pipeline.ValueKit
@[expose] public section
set_option maxRecDepth 16384
noncomputable section

/-! The stages of the reference, read at an index over the extended reals. -/

namespace Cert.ReferenceIdeal.Val
open Cert.ReferenceIdeal Cert.ReferenceIdeal.Gen Cert.ReferenceIdeal.Facts
open Idealize.ShloMosaic Idealize.ShloMosaic.TcCoe Idealize.SL.Sem

/-- A reduction over the last of three axes, at an index. -/
theorem reduce3_at {α : Type} {n0 n1 n2 : Nat} (f : α → α → α) [Std.Commutative f] [Std.Associative f]
    (x : (⟨3, ![n0, n1, n2]⟩ : Shape).Idx → α) {u : Shape} (init : u.Idx → α)
    (h : (⟨3, ![n0, n1, n2]⟩ : Shape).ReducesTo [2] ⟨2, ![n0, n1]⟩) (hu : 0 < u.numel) (a : Fin n0) (b : Fin n1) :
    Host.reduce f x init h hu (ix2 a b) = (Finset.univ : Finset (Fin n2)).fold f (init (Shape.Idx.first hu)) fun l => x (ix3 a b l) := by
  have h' : (⟨3, ![n0, n1, n2]⟩ : Shape).Reduces [2] ⟨2, ![n0, n1]⟩ := ⟨h.1, Nat.two_pos, h.2⟩
  rw [Host.reduce_eq_fold_single f x init h h' hu]
  congr 1
  funext l
  show x _ = x _
  congr 1
  funext c
  apply Fin.ext
  rw [h'.lift_val]
  fin_cases c <;> rfl

/-- The activations, grouped. -/
theorem h1_at (x : FVec Ideal S1x8192x16384 .bf16) (r : Fin 8192) (G l : Fin 128) :
    h1 (F := Ideal) x (ix3 r G l) = x (ix3 0 r ⟨128 * G.val + l.val, by omega⟩) := by
  pointwise [h1]
  congr 2
  exact Fin.ext (by show G.val * 128 + l.val = 128 * G.val + l.val; omega)
/-- Their magnitudes. -/
theorem h2_at (x : FVec Ideal S8192x128x128 .f32) (i : S8192x128x128.Idx) : h2 (F := Ideal) x i = max (x i) (-(x i)) := rfl
/-- A group's largest magnitude. -/
theorem h3_at (x : FVec Ideal S8192x128x128 .f32) (r : Fin 8192) (G : Fin 128) :
    h3 (F := Ideal) x (ix2 r G) = (Finset.univ : Finset (Fin 128)).fold max (Ideal.ofBits .f32 4286578688#32) fun l => x (ix3 r G l) :=
  reduce3_at FloatOps.maximumf x _ reducesTo_S8192x128x128_S8192x128_d2 h_S_ r G
/-- It over 448. -/
theorem h5_at (x : FVec Ideal S8192x128 .f32) (r : Fin 8192) (G : Fin 128) :
    h5 (F := Ideal) x (ix2 r G) = x (ix2 r G) * Ideal.ofBits .f32 991054117#32 := by
  pointwise [h5]
/-- The powers of two. -/
theorem h10_at (e : Fin 253) : h10 (F := Ideal) (ix1 e)
    = Ideal.pow (Ideal.ofBits .f32 1073741824#32) (FloatOps.sitofp (F := Ideal) .f32 (BitVec.ofNat 32 e.val) - Ideal.ofBits .f32 1123680256#32) := by
  pointwise [h10]
/-- The powers of two above a value. -/
theorem h16_at (y : FVec Ideal S8192x128 .f32) (p : FVec Ideal S253 .f32) (r : Fin 8192) (G : Fin 128) (e : Fin 253) :
    h16 (F := Ideal) y p (ix3 r G e) = if y (ix2 r G) < p (ix1 e) then p (ix1 e) else Ideal.ofBits .f32 2139095040#32 := by
  pointwise [h16]
  rfl
/-- The least of them. -/
theorem h17_at (x : FVec Ideal S8192x128x253 .f32) (r : Fin 8192) (G : Fin 128) :
    h17 (F := Ideal) x (ix2 r G) = (Finset.univ : Finset (Fin 253)).fold min (Ideal.ofBits .f32 2139095040#32) fun l => x (ix3 r G l) :=
  reduce3_at FloatOps.minimumf x _ reducesTo_S8192x128x253_S8192x128_d2 h_S_ r G
/-- The scales. -/
theorem h20_at (y a : FVec Ideal S8192x128 .f32) (r : Fin 8192) (G : Fin 128) :
    h20 (F := Ideal) y a (ix2 r G) = if y (ix2 r G) < Ideal.ofBits .f32 8388608#32 then 1 else a (ix2 r G) := by
  pointwise [h20]
  show (if _ then Ideal.ofBits .f32 1065353216#32 else _) = _
  rw [Ideal.ofBits_one_f32]
/-- The quotients, clipped. -/
theorem h27_at (x : FVec Ideal S8192x128x128 .f32) (s : FVec Ideal S8192x128 .f32) (r : Fin 8192) (d : Fin 16384) :
    h27 (F := Ideal) x s (ix2 r d) = min (Ideal.ofBits .f32 1138753536#32) (max (Ideal.ofBits .f32 3286237184#32)
      (x (ix3 r ⟨d.val / 128, by omega⟩ ⟨d.val % 128, Nat.mod_lt _ (by decide)⟩) * Ideal.div 1 (s (ix2 r ⟨d.val / 128, by omega⟩)))) := by
  pointwise [h27]
  rfl
/-- The codes times their scales. -/
theorem h32_at (x : FVec Ideal S8192x16384 .bf16) (s : FVec Ideal S8192x128 .f32) (r : Fin 8192) (d : Fin 16384) :
    h32 (F := Ideal) x s (ix2 r d) = x (ix2 r d) * s (ix2 r ⟨d.val / 128, by omega⟩) := by
  pointwise [h32]
/-- The weights times their scales. -/
theorem h39_at (x : FVec Ideal S2112x16384 .bf16) (s : FVec Ideal S17x128 .f32) (n : Fin 2112) (d : Fin 16384) :
    h39 (F := Ideal) x s (ix2 n d) = x (ix2 n d) * s (ix2 ⟨n.val / 128, by omega⟩ ⟨d.val / 128, by omega⟩) := by
  pointwise [h39]
/-- The projection. -/
theorem h40_at (x : FVec Ideal S8192x16384 .bf16) (w : FVec Ideal S2112x16384 .bf16) (r : Fin 8192) (n : Fin 2112) :
    h40 (F := Ideal) x w (ix2 r n) = ∑ d : Fin 16384, x (ix2 r d) * w (ix2 n d) := by
  pointwise [h40]
/-- The query part. -/
theorem h56_at (x : FVec Ideal S8192x2112 .f32) (g : FVec Ideal S1536 .bf16) (r : Fin 8192) (o : Fin 1536) :
    h56 (F := Ideal) x g (ix2 r o) = x (ix2 r ⟨o.val, by omega⟩) * Ideal.rsqrt
      (Ideal.div (∑ k : Fin 1536, x (ix2 r ⟨k.val, by omega⟩) * x (ix2 r ⟨k.val, by omega⟩)) (Ideal.ofBits .f32 1153433600#32)
        + Ideal.ofBits .f32 897988541#32) * g (ix1 o) := by
  pointwise [h56]
/-- The key-value part. -/
theorem h72_at (x : FVec Ideal S8192x2112 .f32) (g : FVec Ideal S512 .bf16) (r : Fin 8192) (o : Fin 512) :
    h72 (F := Ideal) x g (ix2 r o) = x (ix2 r ⟨1536 + o.val, by omega⟩) * Ideal.rsqrt
      (Ideal.div (∑ k : Fin 512, x (ix2 r ⟨1536 + k.val, by omega⟩) * x (ix2 r ⟨1536 + k.val, by omega⟩)) (Ideal.ofBits .f32 1140850688#32)
        + Ideal.ofBits .f32 897988541#32) * g (ix1 o) := by
  pointwise [h72]
/-- The positions. -/
theorem h78_at (x : IVec S1 32) (r : Fin 8192) :
    h78 (F := Ideal) x (ix1 r) = FloatOps.sitofp (F := Ideal) .f32 (IntOp.addi (x (ix1 0)) (BitVec.ofNat 32 r.val)) := by
  pointwise [h78]
/-- The frequencies. -/
theorem h88_at (p : Fin 32) : h88 (F := Ideal) (ix1 p) = Ideal.pow (Ideal.ofBits .f32 1176256512#32)
    (Ideal.div (-(Ideal.ofBits .f32 1073741824#32 * FloatOps.sitofp (F := Ideal) .f32 (BitVec.ofNat 32 p.val))) (Ideal.ofBits .f32 1115684864#32)) := by
  pointwise [h88]
/-- The angles. -/
theorem h93_at (p : FVec Ideal S8192 .f32) (f : FVec Ideal S32 .f32) (r : Fin 8192) (j : Fin 32) :
    h93 (F := Ideal) p f (ix2 r j) = p (ix1 r) * f (ix1 j) := by
  pointwise [h93]
/-- The rotary part in pairs. -/
theorem h96_at (x : FVec Ideal S8192x2112 .f32) (r : Fin 8192) (p : Fin 32) (e : Fin 2) :
    h96 (F := Ideal) x (ix3 r p e) = x (ix2 r ⟨2048 + (p.val * 2 + e.val), by omega⟩) := by
  pointwise [h96]
/-- The first of a pair, rotated. -/
theorem h103_at (x : FVec Ideal S8192x32x2 .f32) (y : FVec Ideal S8192x32 .f32) (r : Fin 8192) (j : Fin 32) :
    h103 (F := Ideal) x y (ix2 r j) = x (ix3 r j 0) * Ideal.cos (y (ix2 r j)) - x (ix3 r j 1) * Ideal.sin (y (ix2 r j)) := by
  pointwise [h103]
/-- The second. -/
theorem h106_at (x : FVec Ideal S8192x32x2 .f32) (y : FVec Ideal S8192x32 .f32) (r : Fin 8192) (j : Fin 32) :
    h106 (F := Ideal) x y (ix2 r j) = x (ix3 r j 0) * Ideal.sin (y (ix2 r j)) + x (ix3 r j 1) * Ideal.cos (y (ix2 r j)) := by
  pointwise [h106]
/-- The pairs laid side by side. -/
theorem h111_at (x y : FVec Ideal S8192x32 .f32) (r : Fin 8192) (j : Fin 64) :
    h111 (F := Ideal) x y (ix2 r j) = if j.val % 2 < 1 then x (ix2 r ⟨j.val / 2, by omega⟩) else y (ix2 r ⟨j.val / 2, by omega⟩) := by
  pointwise [h111]
  rfl

end Cert.ReferenceIdeal.Val
end
-- ==== Proof.REq0.lean ====
module
public import proofs.«01_k».proof.Proof.Pow2
public import proofs.«01_k».proof.Proof.Spec
public import Idealize.ShloMosaic.Lib.ReduceAll
@[expose] public section
noncomputable section

/-! The constants of the two programs as reals, and the scalar equations between the reference's forms and the
    kernel's: the quotients' bounds, the scales, the means and the angles. -/

namespace Cert.Spec
open Idealize.ShloMosaic

/-- The word of minus infinity. -/
theorem c_bot : Ideal.ofBits .f32 4286578688#32 = ⊥ := by simp [Ideal.ofBits, Ideal.ieee]
/-- The word of infinity. -/
theorem c_top : Ideal.ofBits .f32 2139095040#32 = ⊤ := by simp [Ideal.ofBits, Ideal.ieee]
/-- The word of 2. -/
theorem c_2 : Ideal.ofBits .f32 1073741824#32 = ((2 : ℝ) : EReal) := by
  simp [Ideal.ofBits, Ideal.ieee]; rw [← EReal.coe_mul]; norm_num
/-- The word of 125. -/
theorem c_125 : Ideal.ofBits .f32 1123680256#32 = ((125 : ℝ) : EReal) := by
  simp [Ideal.ofBits, Ideal.ieee]; rw [← EReal.coe_mul]; norm_num
/-- The word next to 1/448. -/
theorem c_448 : Ideal.ofBits .f32 991054117#32 = ((9586981 / 2 ^ 32 : ℝ) : EReal) := by
  simp [Ideal.ofBits, Ideal.ieee]; rw [← EReal.coe_mul]; norm_num
/-- The word of the greatest finite bf16. -/
theorem c_M : Ideal.ofBits .f32 0x7F7F0000#32 = ((255 * 2 ^ 120 : ℝ) : EReal) := by
  simp [Ideal.ofBits, Ideal.ieee]; exact_mod_cast (by norm_num : (16711680 : ℝ) * 2 ^ 104 = 255 * 2 ^ 120)
/-- The word of 10000. -/
theorem c_10000 : Ideal.ofBits .f32 1176256512#32 = ((10000 : ℝ) : EReal) := by
  simp [Ideal.ofBits, Ideal.ieee]; rw [← EReal.coe_mul]; norm_num
/-- The word of 64. -/
theorem c_64 : Ideal.ofBits .f32 1115684864#32 = ((64 : ℝ) : EReal) := by
  simp [Ideal.ofBits, Ideal.ieee]; rw [← EReal.coe_mul]; norm_num
/-- The word of 1536. -/
theorem c_1536 : Ideal.ofBits .f32 1153433600#32 = ((1536 : ℝ) : EReal) := by
  simp [Ideal.ofBits, Ideal.ieee]; rw [← EReal.coe_mul]; norm_num
/-- The word of 512. -/
theorem c_512 : Ideal.ofBits .f32 1140850688#32 = ((512 : ℝ) : EReal) := by
  simp [Ideal.ofBits, Ideal.ieee]; rw [← EReal.coe_mul]; norm_num
/-- The word of 1/512. -/
theorem c_512i : Ideal.ofBits .f32 989855744#32 = ((1 / 512 : ℝ) : EReal) := by
  simp [Ideal.ofBits, Ideal.ieee]; rw [← EReal.coe_mul]; norm_num

/-- Division by a nonzero real is multiplication by its inverse. -/
theorem div_coe (x : EReal) {a : ℝ} (h : a ≠ 0) : Ideal.div x (a : EReal) = x * ((1 / a : ℝ) : EReal) := by
  unfold Ideal.div
  rw [if_neg (by exact_mod_cast h), ← EReal.coe_inv, one_div]
/-- The mean of 1536 numbers as a product. -/
theorem div_1536 (x : EReal) : Ideal.div x (Ideal.ofBits .f32 1153433600#32) = x * ((1 / 1536 : ℝ) : EReal) := by
  rw [c_1536, div_coe x (by norm_num)]
/-- The mean of 512 numbers as a product. -/
theorem div_512 (x : EReal) : Ideal.div x (Ideal.ofBits .f32 1140850688#32) = x * Ideal.ofBits .f32 989855744#32 := by
  rw [c_512, c_512i, div_coe x (by norm_num)]

/-- A small natural number is its 32-bit word's signed value. -/
theorem small_toInt (n : ℕ) (h : n < 2 ^ 31) : (BitVec.ofNat 32 n).toInt = (n : ℤ) := by
  have e : (BitVec.ofNat 32 n).toNat = n := by rw [BitVec.toNat_ofNat]; omega
  rw [BitVec.toInt_eq_toNat_of_lt (by rw [e]; omega), e]

/-- The reference's powers. -/
theorem pow_power (e : Fin 253) : Ideal.pow (Ideal.ofBits .f32 1073741824#32)
    (FloatOps.sitofp (F := Ideal) .f32 (BitVec.ofNat 32 e.val) - Ideal.ofBits .f32 1123680256#32) = Pow2.power e.val := by
  have h : (BitVec.ofNat 32 e.val).toInt = (e.val : ℤ) := small_toInt _ (by omega)
  rw [c_2, c_125]
  show Ideal.pow ((2 : ℝ) : EReal) ((((BitVec.ofNat 32 e.val).toInt : ℝ) : EReal) - ((125 : ℝ) : EReal)) = _
  rw [h, ← EReal.coe_sub]
  show ((Real.rpow 2 (((e.val : ℤ) : ℝ) - 125) : ℝ) : EReal) = _
  unfold Pow2.power
  congr 1
  rw [show (((e.val : ℤ) : ℝ) - 125) = (((e.val : ℤ) - 125 : ℤ) : ℝ) by push_cast; ring]
  exact Real.rpow_intCast 2 _

/-- A quotient is nonnegative. -/
theorem yOf_nonneg (f : Fin 128 → EReal) : 0 ≤ yOf f := by
  unfold yOf
  rw [c_448]
  refine mul_nonneg ?_ (by exact_mod_cast (by positivity : (0 : ℝ) ≤ 9586981 / 2 ^ 32))
  rw [Finset.le_fold_max]
  refine Or.inr ⟨0, Finset.mem_univ _, ?_⟩
  rcases le_total 0 (f 0) with h | h
  · exact le_max_of_le_left h
  · exact le_max_of_le_right (by rw [EReal.le_neg]; simpa using h)

/-- Of finite activations it is below `2 ^ 126`. -/
theorem yOf_lt (f : Fin 128 → EReal) (h : ∀ l, max (f l) (-(f l)) ≤ Ideal.ofBits .f32 0x7F7F0000#32) : yOf f < Pow2.fl 253 := by
  have h1 : yOf f ≤ Ideal.ofBits .f32 0x7F7F0000#32 * Ideal.ofBits .f32 991054117#32 := by
    unfold yOf
    refine mul_le_mul_of_nonneg_right ?_ ?_
    · rw [Finset.fold_max_le]
      exact ⟨by rw [c_bot]; exact bot_le, fun l _ => h l⟩
    · rw [c_448]; exact_mod_cast (by positivity : (0 : ℝ) ≤ 9586981 / 2 ^ 32)
  refine h1.trans_lt ?_
  rw [c_M, c_448, Pow2.fl_eq 253 (by omega) (by omega), ← EReal.coe_mul]
  exact EReal.coe_lt_coe_iff.mpr (by norm_num)

/-- The reference's frequency is the kernel's. -/
theorem freq (p : ℕ) (hp : p < 32) : Ideal.pow (Ideal.ofBits .f32 1176256512#32)
      (Ideal.div (-(Ideal.ofBits .f32 1073741824#32 * FloatOps.sitofp (F := Ideal) .f32 (BitVec.ofNat 32 p))) (Ideal.ofBits .f32 1115684864#32))
    = Ideal.exp (FloatOps.sitofp (F := Ideal) .f32 (BitVec.ofNat 32 (2 * p))
      * Ideal.div (0 - Scalar.log (F := Ideal) (φ := .f32) (Ideal.ofBits .f32 1176256512#32)) (Ideal.ofBits .f32 1115684864#32)) := by
  have h1 : (BitVec.ofNat 32 p).toInt = (p : ℤ) := small_toInt _ (by omega)
  have h2 : (BitVec.ofNat 32 (2 * p)).toInt = ((2 * p : ℕ) : ℤ) := small_toInt _ (by omega)
  rw [c_2, c_64, c_10000, div_coe _ (by norm_num), div_coe _ (by norm_num)]
  show Ideal.pow ((10000 : ℝ) : EReal) (-(((2 : ℝ) : EReal) * (((BitVec.ofNat 32 p).toInt : ℝ) : EReal)) * ((1 / 64 : ℝ) : EReal))
    = Ideal.exp ((((BitVec.ofNat 32 (2 * p)).toInt : ℝ) : EReal) * ((0 - Ideal.log ((10000 : ℝ) : EReal)) * ((1 / 64 : ℝ) : EReal)))
  have hl : Ideal.log ((10000 : ℝ) : EReal) = ((Real.log 10000 : ℝ) : EReal) := if_neg (by norm_num)
  rw [h1, h2, hl, ← EReal.coe_mul, ← EReal.coe_neg, ← EReal.coe_mul, ← EReal.coe_zero, ← EReal.coe_sub, ← EReal.coe_mul, ← EReal.coe_mul]
  show ((Real.rpow 10000 _ : ℝ) : EReal) = ((Real.exp _ : ℝ) : EReal)
  congr 1
  show (10000 : ℝ) ^ (_ : ℝ) = _
  rw [Real.rpow_def_of_pos (by norm_num)]
  congr 1
  push_cast
  ring

end Cert.Spec
end
-- ==== Proof.REq.lean ====
module
public import proofs.«01_k».proof.Proof.RFin
public import proofs.«01_k».proof.Proof.RAt
public import proofs.«01_k».proof.Proof.REq0
@[expose] public section
set_option maxRecDepth 16384
noncomputable section

/-! The reference's arrays, element by element, are the plain functions of `Spec`. -/

namespace Cert.ReferenceIdeal.Val
open Cert.ReferenceIdeal Cert.ReferenceIdeal.Gen
open Idealize.ShloMosaic Idealize.ShloMosaic.TcCoe Idealize.SL.Sem

variable (x : FVec Ideal S1x8192x16384 .bf16) (w : FVec Ideal S2112x16384 .fp8e4m3) (s : FVec Ideal S17x128 .f32)

/-- The activations. -/
def ax (r : Fin 8192) (d : Fin 16384) : EReal := x (ix3 0 r d)
/-- The weights. -/
def aw (n : Fin 2112) (d : Fin 16384) : EReal := w (ix2 n d)
/-- The weight scales. -/
def aws (n : Fin 17) (g : Fin 128) : EReal := s (ix2 n g)

/-- The activations are finite numbers. -/
def Fin' : Prop := ∀ r d, max (ax x r d) (-(ax x r d)) ≤ Ideal.ofBits .f32 0x7F7F0000#32

/-- The quotients. -/
theorem y5_at (r : Fin 8192) (G : Fin 128) :
    h5 (F := Ideal) (h3 (F := Ideal) (h2 (F := Ideal) (h1 (F := Ideal) x))) (ix2 r G) = Spec.yOf (Spec.row (ax x) r G) := by
  rw [h5_at, h3_at]
  simp only [h2_at, h1_at, Spec.yOf, Spec.row, ax]

variable {x}
/-- The quotients are nonnegative. -/
theorem y_nonneg (r : Fin 8192) (G : Fin 128) : 0 ≤ Spec.yOf (Spec.row (ax x) r G) := Spec.yOf_nonneg _
/-- They are below `2 ^ 126`. -/
theorem y_lt (hx : Fin' x) (r : Fin 8192) (G : Fin 128) : Spec.yOf (Spec.row (ax x) r G) < Pow2.fl 253 :=
  Spec.yOf_lt _ fun l => hx _ _

/-- The scales. -/
theorem fSc_at (hx : Fin' x) (r : Fin 8192) (G : Fin 128) : fSc x (ix2 r G) = Spec.scOf (Spec.row (ax x) r G) := by
  unfold fSc Spec.scOf
  rw [h20_at, h17_at, (Pow2.scale_eq (y_nonneg r G) (y_lt hx r G)).1, y5_at, Pow2.tiny.symm]
  simp only [h16_at, h10_at, y5_at, Spec.pow_power, Spec.c_top]
  unfold Pow2.above
  rfl

/-- The codes. -/
theorem fCo_at (hx : Fin' x) (r : Fin 8192) (d : Fin 16384) : fCo x (ix2 r d) = Spec.code (ax x) r d := by
  unfold fCo Spec.code Spec.codeOf
  rw [h27_at, fSc_at hx, (Pow2.scale_eq (y_nonneg r _) (y_lt hx r _)).2, h1_at]
  rfl

/-- The projection. -/
theorem fY_at (hx : Fin' x) (r : Fin 8192) (n : Fin 2112) : fY x w s (ix2 r n) = Spec.y (ax x) (aw w) (aws s) n r := by
  unfold fY Spec.y
  rw [h40_at]
  refine Finset.sum_congr rfl fun d _ => ?_
  rw [h32_at, h39_at, fCo_at hx, fSc_at hx, mul_comm]
  rfl

variable (Y : FVec Ideal S8192x2112 .f32)
/-- The query part. -/
theorem q_at (g : FVec Ideal S1536 .bf16) (r : Fin 8192) (o : Fin 1536) :
    h56 (F := Ideal) Y g (ix2 r o) = Spec.q (fun n => Y (ix2 r n)) (fun o => g (ix1 o)) o := by
  rw [h56_at, Spec.div_1536]
  rfl
/-- The key-value part. -/
theorem kv_at (g : FVec Ideal S512 .bf16) (r : Fin 8192) (o : Fin 512) :
    h72 (F := Ideal) Y g (ix2 r o) = Spec.kv (fun n => Y (ix2 r n)) (fun o => g (ix1 o)) o := by
  rw [h72_at, Spec.div_512]
  rfl
/-- The angles. -/
theorem ang_at (p : IVec S1 32) (r : Fin 8192) (j : Fin 64) :
    h93 (F := Ideal) (h78 (F := Ideal) p) (h88 (F := Ideal)) (ix2 r ⟨j.val / 2, by omega⟩)
      = Spec.ang (IntOp.addi (p (ix1 0)) (BitVec.ofNat 32 r.val)) j := by
  rw [h93_at, h78_at, h88_at, Spec.freq _ (by show j.val / 2 < 32; omega)]
  rfl
/-- The rotated part. -/
theorem pe_at (p : IVec S1 32) (r : Fin 8192) (j : Fin 64) :
    fPe Y p (ix2 r j) = Spec.pe (fun n => Y (ix2 r n)) (IntOp.addi (p (ix1 0)) (BitVec.ofNat 32 r.val)) j := by
  unfold fPe Spec.pe
  rw [h111_at]
  have hj := j.isLt
  rcases Nat.mod_two_eq_zero_or_one j.val with h | h
  · rw [if_pos (by omega), if_pos h, h103_at, h96_at, h96_at, ang_at, zero_sub, EReal.neg_mul, ← sub_eq_add_neg]
    congr 4 <;> exact Fin.ext (by simp; omega)
  · rw [if_neg (by omega), if_neg (by omega), h106_at, h96_at, h96_at, ang_at, add_comm]
    congr 4 <;> exact Fin.ext (by simp; omega)

end Cert.ReferenceIdeal.Val
end
-- ==== Proof.Alg.lean ====
module
public import proofs.«01_k».proof.Defs
public import proofs.«01_k».proof.Proof.Gen.Pre_x_finite
public import proofs.«01_k».proof.Proof.IFin
public import proofs.«01_k».proof.Proof.REq
@[expose] public section
set_option maxRecDepth 16384
noncomputable section

/-! The kernel and the reference leave the same arrays. -/

namespace Cert.Alg
open Idealize.ShloMosaic Idealize.ShloMosaic.TcCoe Idealize.SL.Sem
open Cert.KernelIdeal.Val Cert.ReferenceIdeal.Val

/-- The precondition, read at one element of the activations. -/
theorem finite_at (x : FVec Ideal Cert.Pre_x_finite.S1x8192x16384 .bf16) (a1 : FVec Ideal Cert.Pre_x_finite.S2112x16384 .fp8e4m3)
    (a2 : FVec Ideal Cert.Pre_x_finite.S17x128 .f32) (a3 : FVec Ideal Cert.Pre_x_finite.S1536 .bf16) (a4 : FVec Ideal Cert.Pre_x_finite.S512 .bf16)
    (a5 : IVec Cert.Pre_x_finite.S1 32) (h : Cert.Pre_x_finite.fn (F := Ideal) x a1 a2 a3 a4 a5 = fun _ => 1#1)
    (i : Cert.Pre_x_finite.S1x8192x16384.Idx) : max (x i) (-(x i)) ≤ Ideal.ofBits .f32 0x7F7F0000#32 := by
  dsimp only [Cert.Pre_x_finite.fn] at h
  have : Subsingleton Cert.Pre_x_finite.S_.Idx := ⟨fun a b => funext fun k => k.elim0⟩
  have e := Host.reduce_andi_all _ _ _ _ (fun k => k.elim0) (congrFun h (fun k => k.elim0)) i
  have e : Ideal.cmp .ole (max (x i) (-(x i))) (Ideal.ofBits .f32 0x7F7F0000#32) = 1#1 := e
  unfold Ideal.cmp at e
  by_contra hn
  simp [hn] at e

section
variable (m : (ℓ : Loc Cert.KernelIdeal.nD Cert.KernelIdeal.τ Cert.KernelIdeal.sig) → Buf (Elt Ideal) ℓ) (c : Dev Cert.KernelIdeal.nD)
variable (x : FVec Ideal Cert.ReferenceIdeal.S1x8192x16384 .bf16) (w : FVec Ideal Cert.ReferenceIdeal.S2112x16384 .fp8e4m3)
  (s : FVec Ideal Cert.ReferenceIdeal.S17x128 .f32)
variable (hX : ax x = X m c) (hW : aw w = W m c) (hS : aws s = WS m c) (hx : Fin' x)

include hX hx in
/-- The codes agree. -/
theorem codes_eq : fCo x = codesA m c := by
  funext i
  obtain ⟨a, b, rfl⟩ : ∃ (a : Fin 8192) (b : Fin 16384), i = ix2 a b := ⟨i 0, i 1, (ix2_eta i).symm⟩
  rw [fCo_at hx, hX]; rfl
include hX hx in
/-- The scales agree. -/
theorem scales_eq : fSc x = scA m c := by
  funext i
  obtain ⟨a, b, rfl⟩ : ∃ (a : Fin 8192) (b : Fin 128), i = ix2 a b := ⟨i 0, i 1, (ix2_eta i).symm⟩
  rw [fSc_at hx, hX]; rfl
include hX hx hW hS in
/-- A row of the projection is the same in both. -/
theorem y_eq (r : Fin 8192) : (fun n : Fin 2112 => fY x w s (ix2 r n)) = fun n => Spec.y (X m c) (W m c) (WS m c) n r := by
  funext n
  rw [fY_at _ _ hx, hX, hW, hS]
include hX hx hW hS in
/-- The query parts agree. -/
theorem query_eq (g : FVec Ideal Cert.ReferenceIdeal.S1536 .bf16) (hG : (fun o => g (ix1 o)) = GQ m c) : h56 (F := Ideal) (fY x w s) g = qA m c := by
  funext i
  obtain ⟨a, b, rfl⟩ : ∃ (a : Fin 8192) (b : Fin 1536), i = ix2 a b := ⟨i 0, i 1, (ix2_eta i).symm⟩
  rw [Cert.ReferenceIdeal.Val.q_at, y_eq m c x w s hX hW hS hx, hG]; rfl
include hX hx hW hS in
/-- The key-value parts agree. -/
theorem keyval_eq (g : FVec Ideal Cert.ReferenceIdeal.S512 .bf16) (hG : (fun o => g (ix1 o)) = GK m c) : h72 (F := Ideal) (fY x w s) g = kvA m c := by
  funext i
  obtain ⟨a, b, rfl⟩ : ∃ (a : Fin 8192) (b : Fin 512), i = ix2 a b := ⟨i 0, i 1, (ix2_eta i).symm⟩
  rw [Cert.ReferenceIdeal.Val.kv_at, y_eq m c x w s hX hW hS hx, hG]; rfl
include hX hx hW hS in
/-- The rotated parts agree. -/
theorem rot_eq (p : IVec Cert.ReferenceIdeal.S1 32) (hp : p (ix1 0) = ST m c) : fPe (fY x w s) p = peA m c := by
  funext i
  obtain ⟨a, b, rfl⟩ : ∃ (a : Fin 8192) (b : Fin 64), i = ix2 a b := ⟨i 0, i 1, (ix2_eta i).symm⟩
  rw [Cert.ReferenceIdeal.Val.pe_at, y_eq m c x w s hX hW hS hx, hp]; rfl
end

/-- From memories that agree on the arguments, finite activations, both programs leave the same five arrays. -/
theorem algebraic : Cert.algebraic_KernelIdeal_ReferenceIdeal_pre_x_finite (hKernelIdeal := Cert.KernelIdeal.Gen.facts)
    (hReferenceIdeal := Cert.ReferenceIdeal.Gen.facts) (hPre_x_finite := Cert.Pre_x_finite.Gen.facts) := by
  intro m g m' g' hp hag
  refine ⟨qA m, kvA m, peA m, codesA m, scA m, ?_, ?_⟩
  · refine (θ_run _ _ _).mono (fun r h c => ?_) (θ_run_and (valuesV m g) (unchangedV m g))
    obtain ⟨h0, h1, h2, h3, h4⟩ := h.1 c
    exact ⟨h0, h1, h2, h3, h4, h.2 c⟩
  · refine (θ_run _ _ _).mono (fun r h c => ?_) (θ_run_and (valuesR m' g') (Cert.ReferenceIdeal.Gen.unchanged m' g'))
    obtain ⟨a0, a1, a2, a3, a4, a5⟩ := hag c
    have hX : ax (A0 m' c) = X m c := funext fun r => funext fun d => congrFun a0 (ix3 0 r d)
    have hW : aw (A1 m' c) = W m c := funext fun r => funext fun d => congrFun a1 (ix2 r d)
    have hS : aws (A2 m' c) = WS m c := funext fun r => funext fun d => congrFun a2 (ix2 r d)
    have hQ : (fun o => A3 m' c (ix1 o)) = GQ m c := funext fun o => congrFun a3 (ix1 o)
    have hK : (fun o => A4 m' c (ix1 o)) = GK m c := funext fun o => congrFun a4 (ix1 o)
    have hT : A5 m' c (ix1 0) = ST m c := congrFun a5 (ix1 0)
    have hx : Fin' (A0 m' c) := fun r d => by
      rw [hX]
      exact finite_at _ _ _ _ _ _ (hp c) (ix3 0 r d)
    obtain ⟨h0, h1, h2, h3, h4⟩ := h.1 c
    exact ⟨h0.trans (query_eq m c _ _ _ hX hW hS hx _ hQ), h1.trans (keyval_eq m c _ _ _ hX hW hS hx _ hK),
      h2.trans (rot_eq m c _ _ _ hX hW hS hx _ hT), h3.trans (codes_eq m c _ hX hx), h4.trans (scales_eq m c _ hX hx), h.2 c⟩

end Cert.Alg
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KFrame
public import proofs.«01_k».proof.Proof.IFin
public import proofs.«01_k».proof.Proof.Gen.Pre_x_finite
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The frames of the three programs, the sanctioned idealization, and the equality of the idealized kernel's results
    with the reference's for finite activations. -/
theorem claim : Cert.Claim := ⟨Cert.Kernel.Gen.facts, Cert.KernelIdeal.Gen.facts, Cert.ReferenceIdeal.Gen.facts, Cert.Pre_x_finite.Gen.facts,
  fun m g _ => Cert.Kernel.Gen.frame m g,
  fun m g _ => Cert.KernelIdeal.Val.frameV m g,
  fun m g _ => Cert.KernelIdeal.Val.frameV m g,
  fun m g _ => Cert.ReferenceIdeal.Gen.frame m g,
  fun m g _ => Cert.ReferenceIdeal.Gen.frame m g,
  IdealRules.named_const.statement Cert.KernelIdeal.κ "inv_q" .f32 0x3A2AAAAB#32 ((1 / 1536 : ℝ) : EReal) rfl,
  Cert.Alg.algebraic⟩

end Cert.Proof

end
